-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pre_prep [hPre_pre_prep : Cert.Pre_pre_prep.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pre_prep.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pre_prep [hPre_pre_prep : Cert.Pre_pre_prep.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pre_prep.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_pre_step [hPre_pre_step : Cert.Pre_pre_step.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_pre_step.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_pre_step [hPre_pre_step : Cert.Pre_pre_step.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_pre_step.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_pre_prep [hKernel5Ideal : Cert.Kernel5Ideal.Facts] [hPre_pre_prep : Cert.Pre_pre_prep.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pre_prep m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_pre_prep [hReference5Ideal : Cert.Reference5Ideal.Facts] [hPre_pre_prep : Cert.Pre_pre_prep.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pre_prep m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_pre_step [hKernel6Ideal : Cert.Kernel6Ideal.Facts] [hPre_pre_step : Cert.Pre_pre_step.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_pre_step m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_pre_step [hReference6Ideal : Cert.Reference6Ideal.Facts] [hPre_pre_step : Cert.Pre_pre_step.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_pre_step m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_pre_prep [hKernel5Ideal : Cert.Kernel5Ideal.Facts] [hReference5Ideal : Cert.Reference5Ideal.Facts] [hPre_pre_prep : Cert.Pre_pre_prep.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pre_prep m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v60_0)) (v1 : (c : Dev Cert.Kernel5Ideal.nD) → Buf (Elt Ideal) ((c.tc : Thread Cert.Kernel5Ideal.nD Cert.Kernel5Ideal.τ).loc Cert.Kernel5Ideal.main_v60_1)) (v2 : (c : Dev Cert.Kernel5Ideal.nD) → Buf (Elt Ideal) ((c.tc : Thread Cert.Kernel5Ideal.nD Cert.Kernel5Ideal.τ).loc Cert.Kernel5Ideal.main_v60_2)) (v3 : (c : Dev Cert.Kernel5Ideal.nD) → Buf (Elt Ideal) ((c.tc : Thread Cert.Kernel5Ideal.nD Cert.Kernel5Ideal.τ).loc Cert.Kernel5Ideal.main_v60_3)) (v4 : (c : Dev Cert.Kernel5Ideal.nD) → Buf (Elt Ideal) ((c.tc : Thread Cert.Kernel5Ideal.nD Cert.Kernel5Ideal.τ).loc Cert.Kernel5Ideal.main_v60_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v60_0) = v0 c
          ∧ r.2.mem ((c.tc : Thread Cert.Kernel5Ideal.nD Cert.Kernel5Ideal.τ).loc Cert.Kernel5Ideal.main_v60_1) = v1 c
          ∧ r.2.mem ((c.tc : Thread Cert.Kernel5Ideal.nD Cert.Kernel5Ideal.τ).loc Cert.Kernel5Ideal.main_v60_2) = v2 c
          ∧ r.2.mem ((c.tc : Thread Cert.Kernel5Ideal.nD Cert.Kernel5Ideal.τ).loc Cert.Kernel5Ideal.main_v60_3) = v3 c
          ∧ r.2.mem ((c.tc : Thread Cert.Kernel5Ideal.nD Cert.Kernel5Ideal.τ).loc Cert.Kernel5Ideal.main_v60_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v165) = v0 c
          ∧ r.2.mem ((c.tc : Thread Cert.Reference5Ideal.nD Cert.Reference5Ideal.τ).loc Cert.Reference5Ideal.main_v107) = v1 c
          ∧ r.2.mem ((c.tc : Thread Cert.Reference5Ideal.nD Cert.Reference5Ideal.τ).loc Cert.Reference5Ideal.main_v166) = v2 c
          ∧ r.2.mem ((c.tc : Thread Cert.Reference5Ideal.nD Cert.Reference5Ideal.τ).loc Cert.Reference5Ideal.main_v168) = v3 c
          ∧ r.2.mem ((c.tc : Thread Cert.Reference5Ideal.nD Cert.Reference5Ideal.τ).loc Cert.Reference5Ideal.main_v171) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_pre_step [hKernel6Ideal : Cert.Kernel6Ideal.Facts] [hReference6Ideal : Cert.Reference6Ideal.Facts] [hPre_pre_step : Cert.Pre_pre_step.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_pre_step m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_pre : Cert.Pre_pre.Facts) (hPre_pre_prep : Cert.Pre_pre_prep.Facts) (hPre_pre_step : Cert.Pre_pre_step.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_pre_prep (hKernel5Ideal := hKernel5Ideal) (hPre_pre_prep := hPre_pre_prep)
    ∧ quiescent_Reference5Ideal (hReference5Ideal := hReference5Ideal)
    ∧ quiescent_Reference5Ideal_pre_pre_prep (hReference5Ideal := hReference5Ideal) (hPre_pre_prep := hPre_pre_prep)
    ∧ quiescent_Kernel6 (hKernel6 := hKernel6)
    ∧ quiescent_Kernel6Ideal (hKernel6Ideal := hKernel6Ideal)
    ∧ quiescent_Kernel6Ideal_pre_pre_step (hKernel6Ideal := hKernel6Ideal) (hPre_pre_step := hPre_pre_step)
    ∧ quiescent_Reference6Ideal (hReference6Ideal := hReference6Ideal)
    ∧ quiescent_Reference6Ideal_pre_pre_step (hReference6Ideal := hReference6Ideal) (hPre_pre_step := hPre_pre_step)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_pre_prep (hKernel5Ideal := hKernel5Ideal) (hReference5Ideal := hReference5Ideal) (hPre_pre_prep := hPre_pre_prep)
    ∧ preserves_Kernel6_Kernel6Ideal
    ∧ algebraic_Kernel6Ideal_Reference6Ideal_pre_pre_step (hKernel6Ideal := hKernel6Ideal) (hReference6Ideal := hReference6Ideal) (hPre_pre_step := hPre_pre_step)
-- ==== Pre_pre.lean ====
abbrev S16896x6656 : Shape := ⟨2, ![16896, 6656]⟩
abbrev S16384x512 : Shape := ⟨2, ![16384, 512]⟩
abbrev S_ : Shape := ⟨0, ![]⟩
abbrev S16384x128 : Shape := ⟨2, ![16384, 128]⟩

class Facts : Prop where
  slices_S16896x6656_S16384x512_0_0 : S16896x6656.Slices ![0, 0] S16384x512
  bcast_S_S16384x512 : S_.BroadcastsInDim S16384x512 (![] : Fin 0 → Fin S16384x512.rank)
  reducesTo_S16384x512_S_d0_1 : S16384x512.ReducesTo [0, 1] S_
  h_S_ : 0 < S_.numel
  slices_S16896x6656_S16384x128_0_2560 : S16896x6656.Slices ![0, 2560] S16384x128
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16896x6656 .f32) : IVec S_ 1 :=
  let main_v0 : FVec F S16384x512 .f32 := (extractStridedSlice S16384x512 ![0, 0] · slices_S16896x6656_S16384x512_0_0) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x128 .f32 := (extractStridedSlice S16384x128 ![0, 2560] · slices_S16896x6656_S16384x128_0_2560) main_arg0
  let main_v6 : FVec F S16384x128 .f32 := Host.absf main_v5
  let main_cst_0 : FVec F S_ .f32 := constant S_ .f32 0x7F800000#32
  let main_v7 : FVec F S16384x128 .f32 := broadcastInDim S16384x128 ![] bcast_S_S16384x128 main_cst_0
  let main_v8 : IVec S16384x128 1 := cmpf .olt main_v6 main_v7
  let main_c_1 : IVec S_ 1 := constantI S_ 1 1#1
  let main_v9 : IVec S_ 1 := (fun x v => Host.reduce IntOp.andi x v reducesTo_S16384x128_S_d0_1 h_S_) main_v8 main_c_1
  let main_v10 : IVec S_ 1 := andi main_v4 main_v9
  main_v10
-- ==== Pre_pre_prep.lean ====
abbrev S16896x6656 : Shape := ⟨2, ![16896, 6656]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S16896x64 : Shape := ⟨2, ![16896, 64]⟩
abbrev S_ : Shape := ⟨0, ![]⟩
abbrev S16896x32 : Shape := ⟨2, ![16896, 32]⟩

class Facts : Prop where
  slices_S16896x6656_S16896x64_0_6528 : S16896x6656.Slices ![0, 6528] S16896x64
  bcast_S_S16896x64 : S_.BroadcastsInDim S16896x64 (![] : Fin 0 → Fin S16896x64.rank)
  reducesTo_S16896x64_S_d0_1 : S16896x64.ReducesTo [0, 1] S_
  h_S_ : 0 < S_.numel
  slices_S16896x6656_S16896x32_0_6624 : S16896x6656.Slices ![0, 6624] S16896x32
  bcast_S_S16896x32 : S_.BroadcastsInDim S16896x32 (![] : Fin 0 → Fin S16896x32.rank)
  reducesTo_S16896x32_S_d0_1 : S16896x32.ReducesTo [0, 1] S_

variable [Facts]

def fn {F : FTy → Type} [FloatOps F] (main_arg0 : FVec F S16896x6656 .f32) (main_arg1 : FVec F S384 .f32) (main_arg2 : FVec F S256 .f32) (main_arg3 : FVec F S384x768 .f32) (main_arg4 : FVec F S256x1024 .f32) (main_arg5 : FVec F S64 .f32) (main_arg6 : FVec F S64 .f32) (main_arg7 : FVec F S32 .f32) (main_arg8 : FVec F S32 .f32) : IVec S_ 1 :=
  let main_v0 : FVec F S16896x64 .f32 := (extractStridedSlice S16896x64 ![0, 6528] · slices_S16896x6656_S16896x64_0_6528) main_arg0
  let main_cst : FVec F S_ .f32 := constant S_ .f32 0x00000000#32
  let main_v1 : FVec F S16896x64 .f32 := broadcastInDim S16896x64 ![] bcast_S_S16896x64 main_cst
  let main_v2 : IVec S16896x64 1 := cmpf .oeq main_v0 main_v1
  let main_c : IVec S_ 1 := constantI S_ 1 1#1
  let main_v3 : IVec S_ 1 := (fun x v => Host.reduce IntOp.andi x v reducesTo_S16896x64_S_d0_1 h_S_) main_v2 main_c
  let main_v4 : FVec F S16896x32 .f32 := (extractStridedSlice S16896x32 ![0, 6624] · slices_S16896x6656_S16896x32_0_6624) main_arg0
  let main_cst_0 : FVec F S_ .f32 := constant S_ .f32 0x00000000#32
  let main_v5 : FVec F S16896x32 .f32 := broadcastInDim S16896x32 ![] bcast_S_S16896x32 main_cst_0
  let main_v6 : IVec S16896x32 1 := cmpf .oeq main_v4 main_v5
  let main_c_1 : IVec S_ 1 := constantI S_ 1 1#1
  let main_v7 : IVec S_ 1 := (fun x v => Host.reduce IntOp.andi x v reducesTo_S16896x32_S_d0_1 h_S_) main_v6 main_c_1
  let main_v8 : IVec S_ 1 := andi main_v3 main_v7
  main_v8
-- ==== Pre_pre_step.lean ====
abbrev S16896x6656 : Shape := ⟨2, ![16896, 6656]⟩
abbrev S512 : Shape := ⟨1, ![512]⟩
abbrev S4x128 : Shape := ⟨2, ![4, 128]⟩
abbrev S128x4x128x128 : Shape := ⟨4, ![128, 4, 128, 128]⟩
abbrev S512x512 : Shape := ⟨2, ![512, 512]⟩
abbrev S_ : Shape := ⟨0, ![]⟩

class Facts : Prop where
  slices_S16896x6656_S512x512_16384_512 : S16896x6656.Slices ![16384, 512] S512x512
  bcast_S_S512x512 : S_.BroadcastsInDim S512x512 (![] : Fin 0 → Fin S512x512.rank)
  reducesTo_S512x512_S_d0_1 : S512x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S16896x6656 .f32) (main_arg1 : FVec F S512 .f32) (main_arg2 : FVec F S4x128 .f32) (main_arg3 : FVec F S128x4x128x128 .f32) : IVec S_ 1 :=
  let main_v0 : FVec F S512x512 .f32 := (extractStridedSlice S512x512 ![16384, 512] · slices_S16896x6656_S512x512_16384_512) main_arg0
  let main_v1 : FVec F S512x512 .f32 := Host.absf main_v0
  let main_cst : FVec F S_ .f32 := constant S_ .f32 0x7F800000#32
  let main_v2 : FVec F S512x512 .f32 := broadcastInDim S512x512 ![] bcast_S_S512x512 main_cst
  let main_v3 : IVec S512x512 1 := cmpf .olt main_v1 main_v2
  let main_c : IVec S_ 1 := constantI S_ 1 1#1
  let main_v4 : IVec S_ 1 := (fun x v => Host.reduce IntOp.andi x v reducesTo_S512x512_S_d0_1 h_S_) main_v3 main_c
  let main_cst_0 : FVec F S_ .f32 := constant S_ .f32 0x00000000#32
  let main_v5 : FVec F S512 .f32 := broadcastInDim S512 ![] bcast_S_S512 main_cst_0
  let main_v6 : IVec S512 1 := cmpf .oge main_arg1 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v4 main_v7
  let main_cst_2 : FVec F S_ .f32 := constant S_ .f32 0x3F800000#32
  let main_v9 : FVec F S512 .f32 := broadcastInDim S512 ![] bcast_S_S512 main_cst_2
  let main_v10 : IVec S512 1 := cmpf .ole main_arg1 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  main_v12
-- ==== Kernel.lean ====
abbrev S16896x6656 : Shape := ⟨2, ![16896, 6656]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16384x512 : Shape := ⟨2, ![16384, 512]⟩
abbrev S256x512 : Shape := ⟨2, ![256, 512]⟩
abbrev S2048x256 : Shape := ⟨2, ![2048, 256]⟩
abbrev S1024x256 : Shape := ⟨2, ![1024, 256]⟩
abbrev S256x64 : Shape := ⟨2, ![256, 64]⟩
abbrev S1024x64 : Shape := ⟨2, ![1024, 64]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S16896x6656, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S16384x512, .bf16⟩
  | .local _ .vmem, ⟨0, _⟩ => ⟨S256x512, .f32⟩
  | .local _ .vmem, ⟨1, _⟩ => ⟨S256x512, .f32⟩
  | .local _ .vmem, ⟨2, _⟩ => ⟨S2048x256, .f32⟩
  | .local _ .vmem, ⟨3, _⟩ => ⟨S2048x256, .f32⟩
  | .local _ .vmem, ⟨4, _⟩ => ⟨S256x256, .bf16⟩
  | .local _ .vmem, ⟨5, _⟩ => ⟨S256x512, .bf16⟩
  | .local _ .vmem, ⟨6, _⟩ => ⟨S256x512, .bf16⟩
  | _, _ => ⟨S16896x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32_16 : BitVec 32 := 256#32
  let v39 : BitVec 32 := Scalar.muli arg1 c256_i32_16
  v39
def k0_off1 (i : grid0.Coords) : Fin 2 → Nat :=
  let arg1 : BitVec 32 := BitVec.ofNat 32 (i 1).val
  let c256_i32_16 : BitVec 32 := 256#32
  let v39 : BitVec 32 := Scalar.muli arg1 c256_i32_16
  let v40 : BitVec 32 := v39
  let v41 : Index := Scalar.indexCast v40
  let c0_17 : Index := 0#32
  ![v41.toNat, 0]
def k0_off2 (i : grid0.Coords) : Fin 2 → Nat :=
  let arg1 : BitVec 32 := BitVec.ofNat 32 (i 1).val
  let c256_i32_16 : BitVec 32 := 256#32
  let v39 : BitVec 32 := Scalar.muli arg1 c256_i32_16
  let v40 : BitVec 32 := v39
  let v44 : Index := Scalar.indexCast v40
  let c128_18 : Index := 128#32
  ![v44.toNat, 128]
def k0_off3 (i : grid0.Coords) : Fin 2 → Nat :=
  let arg1 : BitVec 32 := BitVec.ofNat 32 (i 1).val
  let c256_i32_16 : BitVec 32 := 256#32
  let v39 : BitVec 32 := Scalar.muli arg1 c256_i32_16
  let v40 : BitVec 32 := v39
  let v83 : Index := Scalar.indexCast v40
  let c64_27 : Index := 64#32
  ![v83.toNat, 64]
def k0_off4 (i : grid0.Coords) : Fin 2 → Nat :=
  let arg1 : BitVec 32 := BitVec.ofNat 32 (i 1).val
  let c256_i32_16 : BitVec 32 := 256#32
  let v39 : BitVec 32 := Scalar.muli arg1 c256_i32_16
  let v40 : BitVec 32 := v39
  let v86 : Index := Scalar.indexCast v40
  let c192_28 : Index := 192#32
  ![v86.toNat, 192]
@[reducible] def k0_t1_loop (i : grid0.Coords) : Scf.Loop 32 :=
  let c0_i32_37 : BitVec 32 := 0#32
  let arg1 : BitVec 32 := BitVec.ofNat 32 (i 1).val
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let c1_i32_39 : BitVec 32 := 1#32
  ⟨c0_i32_37, v129, c1_i32_39⟩
def k0_mult2 (i : grid0.Coords) (k0_t1 : Fin (k0_t1_loop i).trips) : BitVec 32 :=
  let arg1 : BitVec 32 := BitVec.ofNat 32 (i 1).val
  let c1_i32_57 : BitVec 32 := 1#32
  let v156 : BitVec 32 := Scalar.subi arg1 c1_i32_57
  let c0_i32_37 : BitVec 32 := 0#32
  let c1_i32_39 : BitVec 32 := 1#32
  let arg6 : BitVec 32 := Scf.iv c0_i32_37 c1_i32_39 k0_t1
  let v157 : BitVec 32 := Scalar.subi v156 arg6
  let c256_i32_58 : BitVec 32 := 256#32
  let v158 : BitVec 32 := Scalar.muli v157 c256_i32_58
  v158
def k0_off5 (i : grid0.Coords) (k0_t1 : Fin (k0_t1_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let c1_i32_39 : BitVec 32 := 1#32
  let arg6 : BitVec 32 := Scf.iv c0_i32_37 c1_i32_39 k0_t1
  let v157 : BitVec 32 := Scalar.subi v156 arg6
  let c256_i32_58 : BitVec 32 := 256#32
  let v158 : BitVec 32 := Scalar.muli v157 c256_i32_58
  let v159 : BitVec 32 := v158
  let v160 : Index := Scalar.indexCast v159
  let c0_59 : Index := 0#32
  ![v160.toNat, 0]
def k0_off6 (i : grid0.Coords) (k0_t1 : Fin (k0_t1_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let c1_i32_39 : BitVec 32 := 1#32
  let arg6 : BitVec 32 := Scf.iv c0_i32_37 c1_i32_39 k0_t1
  let v157 : BitVec 32 := Scalar.subi v156 arg6
  let c256_i32_58 : BitVec 32 := 256#32
  let v158 : BitVec 32 := Scalar.muli v157 c256_i32_58
  let v159 : BitVec 32 := v158
  let v163 : Index := Scalar.indexCast v159
  let c128_60 : Index := 128#32
  ![v163.toNat, 128]
def k0_off7 (i : grid0.Coords) (k0_t1 : Fin (k0_t1_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let c1_i32_39 : BitVec 32 := 1#32
  let arg6 : BitVec 32 := Scf.iv c0_i32_37 c1_i32_39 k0_t1
  let v157 : BitVec 32 := Scalar.subi v156 arg6
  let c256_i32_58 : BitVec 32 := 256#32
  let v158 : BitVec 32 := Scalar.muli v157 c256_i32_58
  let v159 : BitVec 32 := v158
  let v198 : Index := Scalar.indexCast v159
  let c64_67 : Index := 64#32
  ![v198.toNat, 64]
def k0_off8 (i : grid0.Coords) (k0_t1 : Fin (k0_t1_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let c1_i32_39 : BitVec 32 := 1#32
  let arg6 : BitVec 32 := Scf.iv c0_i32_37 c1_i32_39 k0_t1
  let v157 : BitVec 32 := Scalar.subi v156 arg6
  let c256_i32_58 : BitVec 32 := 256#32
  let v158 : BitVec 32 := Scalar.muli v157 c256_i32_58
  let v159 : BitVec 32 := v158
  let v201 : Index := Scalar.indexCast v159
  let c192_68 : Index := 192#32
  ![v201.toNat, 192]
@[reducible] def k0_t2_loop (i : grid0.Coords) : Scf.Loop 32 :=
  let c0_i32_37 : BitVec 32 := 0#32
  let arg1 : BitVec 32 := BitVec.ofNat 32 (i 1).val
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let v126 : BitVec 32 := Scalar.addi c0_i32_37 v125
  let c1_i32_40 : BitVec 32 := 1#32
  ⟨v129, v126, c1_i32_40⟩
def k0_mult3 (i : grid0.Coords) (k0_t2 : Fin (k0_t2_loop i).trips) : BitVec 32 :=
  let arg1 : BitVec 32 := BitVec.ofNat 32 (i 1).val
  let c1_i32_57 : BitVec 32 := 1#32
  let v156 : BitVec 32 := Scalar.subi arg1 c1_i32_57
  let c0_i32_37 : BitVec 32 := 0#32
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let c1_i32_40 : BitVec 32 := 1#32
  let arg6 : BitVec 32 := Scf.iv v129 c1_i32_40 k0_t2
  let v157 : BitVec 32 := Scalar.subi v156 arg6
  let c256_i32_58 : BitVec 32 := 256#32
  let v158 : BitVec 32 := Scalar.muli v157 c256_i32_58
  v158
def k0_off9 (i : grid0.Coords) (k0_t2 : Fin (k0_t2_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let c1_i32_40 : BitVec 32 := 1#32
  let arg6 : BitVec 32 := Scf.iv v129 c1_i32_40 k0_t2
  let v157 : BitVec 32 := Scalar.subi v156 arg6
  let c256_i32_58 : BitVec 32 := 256#32
  let v158 : BitVec 32 := Scalar.muli v157 c256_i32_58
  let v159 : BitVec 32 := v158
  let v160 : Index := Scalar.indexCast v159
  let c0_59 : Index := 0#32
  ![v160.toNat, 0]
def k0_off10 (i : grid0.Coords) (k0_t2 : Fin (k0_t2_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let c1_i32_40 : BitVec 32 := 1#32
  let arg6 : BitVec 32 := Scf.iv v129 c1_i32_40 k0_t2
  let v157 : BitVec 32 := Scalar.subi v156 arg6
  let c256_i32_58 : BitVec 32 := 256#32
  let v158 : BitVec 32 := Scalar.muli v157 c256_i32_58
  let v159 : BitVec 32 := v158
  let v163 : Index := Scalar.indexCast v159
  let c128_60 : Index := 128#32
  ![v163.toNat, 128]
def k0_off11 (i : grid0.Coords) (k0_t2 : Fin (k0_t2_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let c1_i32_40 : BitVec 32 := 1#32
  let arg6 : BitVec 32 := Scf.iv v129 c1_i32_40 k0_t2
  let v157 : BitVec 32 := Scalar.subi v156 arg6
  let c256_i32_58 : BitVec 32 := 256#32
  let v158 : BitVec 32 := Scalar.muli v157 c256_i32_58
  let v159 : BitVec 32 := v158
  let v198 : Index := Scalar.indexCast v159
  let c64_67 : Index := 64#32
  ![v198.toNat, 64]
def k0_off12 (i : grid0.Coords) (k0_t2 : Fin (k0_t2_loop i).trips) : Fin 2 → Nat :=
  let arg1 : BitVec 32 := BitVec.ofNat 32 (i 1).val
  let c1_i32_57 : BitVec 32 := 1#32
  let v156 : BitVec 32 := Scalar.subi arg1 c1_i32_57
  let c0_i32_37 : BitVec 32 := 0#32
  let v125 : BitVec 32 := Scalar.subi arg1 c0_i32_37
  let c1_i32_38 : BitVec 32 := 1#32
  let v127 : BitVec 32 := Scalar.divsi v125 c1_i32_38
  let v128 : BitVec 32 := Scalar.muli v127 c1_i32_38
  let v129 : BitVec 32 := Scalar.addi c0_i32_37 v128
  let c1_i32_40 : BitVec 32 := 1#32
  let arg6 : BitVec 32 := Scf.iv v129 c1_i32_40 k0_t2
  let v157 : BitVec 32 := Scalar.subi v156 arg6
  let c256_i32_58 : BitVec 32 := 256#32
  let v158 : BitVec 32 := Scalar.muli v157 c256_i32_58
  let v159 : BitVec 32 := v158
  let v201 : Index := Scalar.indexCast v159
  let c192_68 : Index := 192#32
  ![v201.toNat, 192]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16896x6656 : Shape := ⟨2, ![16896, 6656]⟩
abbrev S16384x512 : Shape := ⟨2, ![16384, 512]⟩
abbrev S8x2048x2x4x64 : Shape := ⟨5, ![8, 2048, 2, 4, 64]⟩
abbrev S16384x128 : Shape := ⟨2, ![16384, 128]⟩
abbrev S8x2048x2x64 : Shape := ⟨4, ![8, 2048, 2, 64]⟩
abbrev S2048 : Shape := ⟨1, ![2048]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x2x64x4x2048 : Shape := ⟨5, ![8, 2, 64, 4, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16896x6656, .f32⟩
  | .hbm, ⟨1, _⟩ => ⟨S16384x512, .f32⟩
  | .hbm, ⟨2, _⟩ => ⟨S8x2048x2x4x64, .f32⟩
  | .hbm, ⟨3, _⟩ => ⟨S16384x128, .f32⟩
  | .hbm, ⟨4, _⟩ => ⟨S8x2048x2x64, .f32⟩
  | .hbm, ⟨5, _⟩ => ⟨S16384x128, .f32⟩
  | .hbm, ⟨6, _⟩ => ⟨S8x2048x2x64, .f32⟩
  | .hbm, ⟨7, _⟩ => ⟨S2048, .i32⟩
  | .hbm, ⟨8, _⟩ => ⟨S8x2x2048x2048x4, .f32⟩
  | .hbm, ⟨9, _⟩ => ⟨S8x2x4x2048x2048, .f32⟩
  | .hbm, ⟨10, _⟩ => ⟨S_, .f32⟩
  | .hbm, ⟨11, _⟩ => ⟨S8x2x4x2048x2048, .f32⟩
  | .hbm, ⟨12, _⟩ => ⟨S8x2x4x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S8x2x4x2048x2048, .f32⟩
  | .hbm, ⟨19, _⟩ => ⟨S_, .f32⟩
  | .hbm, ⟨20, _⟩ => ⟨S8x2x4x2048x2048, .f32⟩
  | .hbm, ⟨21, _⟩ => ⟨S8x2x4x2048x2048, .f32⟩
  | .hbm, ⟨22, _⟩ => ⟨S8x2x4x2048x2048, .f32⟩
  | .hbm, ⟨23, _⟩ => ⟨S8x2x4x2048x2048, .f32⟩
  | .hbm, ⟨24, _⟩ => ⟨S8x2x4x2048x2048, .i1⟩
  | .hbm, ⟨25, _⟩ => ⟨S8x2x4x2048x2048, .f32⟩
  | .hbm, ⟨26, _⟩ => ⟨S8x2x4x2048x2048, .f32⟩
  | .hbm, ⟨27, _⟩ => ⟨S8x2x4x2048x2048, .f32⟩
  | .hbm, ⟨28, _⟩ => ⟨S8x2x4x2048x2048, .f32⟩
  | .hbm, ⟨29, _⟩ => ⟨S8x2x4x2048x2048, .f32⟩
  | .hbm, ⟨30, _⟩ => ⟨S8x2x4x2048x2048, .f32⟩
  | .hbm, ⟨31, _⟩ => ⟨S8x2x4x2048x2048, .f32⟩
  | .hbm, ⟨32, _⟩ => ⟨S8x2x4x2048x2048, .f32⟩
  | .hbm, ⟨33, _⟩ => ⟨S8x2x4x2048x2048, .f32⟩
  | .hbm, ⟨34, _⟩ => ⟨S8x2x4x2048x2048, .f32⟩
  | .hbm, ⟨35, _⟩ => ⟨S8x2x4x2048x2048, .f32⟩
  | .hbm, ⟨36, _⟩ => ⟨S_, .f32⟩
  | .hbm, ⟨37, _⟩ => ⟨S8x2x4x2048x2048, .f32⟩
  | .hbm, ⟨38, _⟩ => ⟨S8x2x4x2048x2048, .f32⟩
  | .hbm, ⟨39, _⟩ => ⟨S8x2x4x2048x2048, .f32⟩
  | .hbm, ⟨40, _⟩ => ⟨S8x2x4x2048x2048, .f32⟩
  | .hbm, ⟨41, _⟩ => ⟨S8x2x4x2048x2048, .i1⟩
  | .hbm, ⟨42, _⟩ => ⟨S8x2x4x2048x2048, .f32⟩
  | .hbm, ⟨43, _⟩ => ⟨S8x2x4x2048x2048, .f32⟩
  | .hbm, ⟨44, _⟩ => ⟨S8x2x4x2048x2048, .f32⟩
  | .hbm, ⟨45, _⟩ => ⟨S8x2x4x2048x2048, .f32⟩
  | .hbm, ⟨46, _⟩ => ⟨S8x2x4x2048x2048, .f32⟩
  | .hbm, ⟨47, _⟩ => ⟨S8x2x4x2048x2048, .f32⟩
  | .hbm, ⟨48, _⟩ => ⟨S8x2x4x2048x2048, .f32⟩
  | .hbm, ⟨49, _⟩ => ⟨S8x2x4x2048x2048, .f32⟩
  | .hbm, ⟨50, _⟩ => ⟨S8x2x4x2048x2048, .f32⟩
  | .hbm, ⟨51, _⟩ => ⟨S_, .f32⟩
  | .hbm, ⟨52, _⟩ => ⟨S_, .f32⟩
  | .hbm, ⟨53, _⟩ => ⟨S8x2x4x2048x2048, .i1⟩
  | .hbm, ⟨54, _⟩ => ⟨S8x2x4x2048x2048, .f32⟩
  | .hbm, ⟨55, _⟩ => ⟨S8x2x4x2048x2048, .f32⟩
  | .hbm, ⟨56, _⟩ => ⟨S_, .f32⟩
  | .hbm, ⟨57, _⟩ => ⟨S_, .f32⟩
  | .hbm, ⟨58, _⟩ => ⟨S8x2x4x2048x2048, .f32⟩
  | .hbm, ⟨59, _⟩ => ⟨S8x2x4x2048x2048, .f32⟩
  | .hbm, ⟨60, _⟩ => ⟨S8x2x4x2048x2048, .f32⟩
  | .hbm, ⟨61, _⟩ => ⟨S8x2x4x2048x2048, .f32⟩
  | .hbm, ⟨62, _⟩ => ⟨S_, .f32⟩
  | .hbm, ⟨63, _⟩ => ⟨S_, .f32⟩
  | .hbm, ⟨64, _⟩ => ⟨S8x2x4x2048x2048, .i1⟩
  | .hbm, ⟨65, _⟩ => ⟨S8x2x4x2048x2048, .f32⟩
  | .hbm, ⟨66, _⟩ => ⟨S8x2x4x2048x2048, .f32⟩
  | .hbm, ⟨67, _⟩ => ⟨S8x2x64x4x2048, .f32⟩
  | .hbm, ⟨68, _⟩ => ⟨S8x2048x2x4x64, .f32⟩
  | .hbm, ⟨69, _⟩ => ⟨S16384x512, .f32⟩
  | .hbm, ⟨70, _⟩ => ⟨S16384x512, .bf16⟩
  | _, _ => ⟨S16896x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Kernel2.lean ====
abbrev S16896x1024 : Shape := ⟨2, ![16896, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S768x1024 : Shape := ⟨2, ![768, 1024]⟩
abbrev S1024x512 : Shape := ⟨2, ![1024, 512]⟩
abbrev S512x1024 : Shape := ⟨2, ![512, 1024]⟩
abbrev S768 : Shape := ⟨1, ![768]⟩
abbrev S768x1 : Shape := ⟨2, ![768, 1]⟩
abbrev S768x512 : Shape := ⟨2, ![768, 512]⟩

abbrev nBuf : Space → Nat
  | .hbm => 8
  | .vmem => 11
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S768x1024, .f32⟩
  | .local _ .vmem, ⟨8, _⟩ => ⟨S768x1024, .f32⟩
  | .local _ .vmem, ⟨9, _⟩ => ⟨S768x1024, .bf16⟩
  | .local _ .vmem, ⟨10, _⟩ => ⟨S768x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![22, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16896x1024 : Shape := ⟨2, ![16896, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x4096 : Shape := ⟨2, ![16896, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16896x1024, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S16896x1024, .f32⟩
  | .hbm, ⟨19, _⟩ => ⟨S16896x1024, .f32⟩
  | .hbm, ⟨20, _⟩ => ⟨S16896x4096, .f32⟩
  | .hbm, ⟨21, _⟩ => ⟨S_, .f32⟩
  | .hbm, ⟨22, _⟩ => ⟨S16896x4096, .f32⟩
  | .hbm, ⟨23, _⟩ => ⟨S16896x4096, .f32⟩
  | .hbm, ⟨24, _⟩ => ⟨S16896x4096, .f32⟩
  | .hbm, ⟨25, _⟩ => ⟨S16896x1024, .f32⟩
  | .hbm, ⟨26, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S16896x1024 : Shape := ⟨2, ![16896, 1024]⟩
abbrev S1024 : Shape := ⟨1, ![1024]⟩
abbrev S1024x6560 : Shape := ⟨2, ![1024, 6560]⟩
abbrev S1x1024 : Shape := ⟨2, ![1, 1024]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x3072 : Shape := ⟨2, ![1024, 3072]⟩
abbrev S_ : Shape := ⟨0, ![]⟩
abbrev S1024x64 : Shape := ⟨2, ![1024, 64]⟩
abbrev S1024x6656 : Shape := ⟨2, ![1024, 6656]⟩
abbrev S16896x6656 : Shape := ⟨2, ![16896, 6656]⟩
abbrev S768x1024 : Shape := ⟨2, ![768, 1024]⟩
abbrev S768x512 : Shape := ⟨2, ![768, 512]⟩
abbrev S768 : Shape := ⟨1, ![768]⟩
abbrev S768x1 : Shape := ⟨2, ![768, 1]⟩

abbrev nBuf : Space → Nat
  | .hbm => 23
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x6560, .f32⟩
  | .hbm, ⟨3, _⟩ => ⟨S1x1024, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x384, .f32⟩
  | .hbm, ⟨12, _⟩ => ⟨S1024x256, .f32⟩
  | .hbm, ⟨13, _⟩ => ⟨S1024x32, .f32⟩
  | .hbm, ⟨14, _⟩ => ⟨S1024x3072, .f32⟩
  | .hbm, ⟨15, _⟩ => ⟨S_, .f32⟩
  | .hbm, ⟨16, _⟩ => ⟨S1024x64, .f32⟩
  | .hbm, ⟨17, _⟩ => ⟨S_, .f32⟩
  | .hbm, ⟨18, _⟩ => ⟨S1024x32, .f32⟩
  | .hbm, ⟨19, _⟩ => ⟨S1024x128, .f32⟩
  | .hbm, ⟨20, _⟩ => ⟨S1024x6656, .f32⟩
  | .hbm, ⟨21, _⟩ => ⟨S1024x6656, .bf16⟩
  | .hbm, ⟨22, _⟩ => ⟨S16896x6656, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S768x512, .f32⟩
  | .local _ .vmem, ⟨6, _⟩ => ⟨S768x512, .f32⟩
  | .local _ .vmem, ⟨7, _⟩ => ⟨S768x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![22, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16896x1024 : Shape := ⟨2, ![16896, 1024]⟩
abbrev S1024 : Shape := ⟨1, ![1024]⟩
abbrev S1024x6560 : Shape := ⟨2, ![1024, 6560]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x6560 : Shape := ⟨2, ![16896, 6560]⟩
abbrev S16896x512 : Shape := ⟨2, ![16896, 512]⟩
abbrev S16896x128 : Shape := ⟨2, ![16896, 128]⟩
abbrev S16896x384 : Shape := ⟨2, ![16896, 384]⟩
abbrev S16896x256 : Shape := ⟨2, ![16896, 256]⟩
abbrev S16896x32 : Shape := ⟨2, ![16896, 32]⟩
abbrev S16896x3072 : Shape := ⟨2, ![16896, 3072]⟩
abbrev S16896x64 : Shape := ⟨2, ![16896, 64]⟩
abbrev S16896x6656 : Shape := ⟨2, ![16896, 6656]⟩

abbrev nBuf : Space → Nat
  | .hbm => 36
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x6560, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x6560, .f32⟩
  | .hbm, ⟨20, _⟩ => ⟨S16896x512, .f32⟩
  | .hbm, ⟨21, _⟩ => ⟨S16896x128, .f32⟩
  | .hbm, ⟨22, _⟩ => ⟨S16896x128, .f32⟩
  | .hbm, ⟨23, _⟩ => ⟨S16896x512, .f32⟩
  | .hbm, ⟨24, _⟩ => ⟨S16896x512, .f32⟩
  | .hbm, ⟨25, _⟩ => ⟨S16896x512, .f32⟩
  | .hbm, ⟨26, _⟩ => ⟨S16896x512, .f32⟩
  | .hbm, ⟨27, _⟩ => ⟨S16896x384, .f32⟩
  | .hbm, ⟨28, _⟩ => ⟨S16896x256, .f32⟩
  | .hbm, ⟨29, _⟩ => ⟨S16896x32, .f32⟩
  | .hbm, ⟨30, _⟩ => ⟨S16896x3072, .f32⟩
  | .hbm, ⟨31, _⟩ => ⟨S_, .f32⟩
  | .hbm, ⟨32, _⟩ => ⟨S16896x64, .f32⟩
  | .hbm, ⟨33, _⟩ => ⟨S_, .f32⟩
  | .hbm, ⟨34, _⟩ => ⟨S16896x32, .f32⟩
  | .hbm, ⟨35, _⟩ => ⟨S16896x6656, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S16896x1024 : Shape := ⟨2, ![16896, 1024]⟩
abbrev S16896x512 : Shape := ⟨2, ![16896, 512]⟩
abbrev S16896x6656 : Shape := ⟨2, ![16896, 6656]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S256x3072 : Shape := ⟨2, ![256, 3072]⟩

abbrev nBuf : Space → Nat
  | .hbm => 14
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S16896x6656, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .f32⟩
  | .local _ .vmem, ⟨9, _⟩ => ⟨S256x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16896x1024 : Shape := ⟨2, ![16896, 1024]⟩
abbrev S16896x512 : Shape := ⟨2, ![16896, 512]⟩
abbrev S16896x6656 : Shape := ⟨2, ![16896, 6656]⟩
abbrev S512x1024 : Shape := ⟨2, ![512, 1024]⟩
abbrev S1024x1024 : Shape := ⟨2, ![1024, 1024]⟩
abbrev S16896x3072 : Shape := ⟨2, ![16896, 3072]⟩
abbrev S_ : Shape := ⟨0, ![]⟩
abbrev S16896x3x1024 : Shape := ⟨3, ![16896, 3, 1024]⟩
abbrev S16896x1x1024 : Shape := ⟨3, ![16896, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S16896x6656, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16896x3072, .f32⟩
  | .hbm, ⟨10, _⟩ => ⟨S16896x3072, .f32⟩
  | .hbm, ⟨11, _⟩ => ⟨S16896x3072, .f32⟩
  | .hbm, ⟨12, _⟩ => ⟨S_, .f32⟩
  | .hbm, ⟨13, _⟩ => ⟨S16896x3072, .f32⟩
  | .hbm, ⟨14, _⟩ => ⟨S16896x3072, .f32⟩
  | .hbm, ⟨15, _⟩ => ⟨S_, .f32⟩
  | .hbm, ⟨16, _⟩ => ⟨S16896x3072, .f32⟩
  | .hbm, ⟨17, _⟩ => ⟨S16896x3072, .f32⟩
  | .hbm, ⟨18, _⟩ => ⟨S16896x3x1024, .f32⟩
  | .hbm, ⟨19, _⟩ => ⟨S16896x1x1024, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1x1024, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1x1024, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel5.lean ====
abbrev S16896x6656 : Shape := ⟨2, ![16896, 6656]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S16896 : Shape := ⟨1, ![16896]⟩
abbrev S16 : Shape := ⟨1, ![16]⟩
abbrev S16896x1 : Shape := ⟨2, ![16896, 1]⟩
abbrev S1x16 : Shape := ⟨2, ![1, 16]⟩
abbrev S16896x16 : Shape := ⟨2, ![16896, 16]⟩
abbrev S16896x64 : Shape := ⟨2, ![16896, 64]⟩
abbrev S16896x32 : Shape := ⟨2, ![16896, 32]⟩
abbrev S16896x128 : Shape := ⟨2, ![16896, 128]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S128 : Shape := ⟨1, ![128]⟩
abbrev S1x128 : Shape := ⟨2, ![1, 128]⟩
abbrev S1x384 : Shape := ⟨2, ![1, 384]⟩
abbrev S1x256 : Shape := ⟨2, ![1, 256]⟩
abbrev S16896x1024 : Shape := ⟨2, ![16896, 1024]⟩
abbrev S16896x256 : Shape := ⟨2, ![16896, 256]⟩
abbrev S16896x512 : Shape := ⟨2, ![16896, 512]⟩
abbrev S256x384 : Shape := ⟨2, ![256, 384]⟩
abbrev S256x256 : Shape := ⟨2, ![256, 256]⟩
abbrev S256x128 : Shape := ⟨2, ![256, 128]⟩
abbrev S256x32 : Shape := ⟨2, ![256, 32]⟩
abbrev S256x1 : Shape := ⟨2, ![256, 1]⟩

abbrev nBuf : Space → Nat
  | .hbm => 90
  | .vmem => 27
  | .smem => 0
  | _ => 0

abbrev bufTy : (tb : Table) → Fin (tcTables nBuf tb) → BufTy
  | .hbm, ⟨0, _⟩ => ⟨S16896x6656, .f32⟩
  | .hbm, ⟨1, _⟩ => ⟨S384, .f32⟩
  | .hbm, ⟨2, _⟩ => ⟨S256, .f32⟩
  | .hbm, ⟨3, _⟩ => ⟨S384x768, .f32⟩
  | .hbm, ⟨4, _⟩ => ⟨S256x1024, .f32⟩
  | .hbm, ⟨5, _⟩ => ⟨S64, .f32⟩
  | .hbm, ⟨6, _⟩ => ⟨S64, .f32⟩
  | .hbm, ⟨7, _⟩ => ⟨S32, .f32⟩
  | .hbm, ⟨8, _⟩ => ⟨S32, .f32⟩
  | .hbm, ⟨9, _⟩ => ⟨S2048, .i32⟩
  | .hbm, ⟨10, _⟩ => ⟨S1x2048, .i32⟩
  | .hbm, ⟨11, _⟩ => ⟨S8x2048, .i32⟩
  | .hbm, ⟨12, _⟩ => ⟨S16384, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x4, .i32⟩
  | .hbm, ⟨18, _⟩ => ⟨S128x4, .i32⟩
  | .hbm, ⟨19, _⟩ => ⟨S512, .i32⟩
  | .hbm, ⟨20, _⟩ => ⟨S16896, .i32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16896, .f32⟩
  | .hbm, ⟨30, _⟩ => ⟨S16896x1, .f32⟩
  | .hbm, ⟨31, _⟩ => ⟨S1x16, .f32⟩
  | .hbm, ⟨32, _⟩ => ⟨S16896x16, .f32⟩
  | .hbm, ⟨33, _⟩ => ⟨S16896x16, .f32⟩
  | .hbm, ⟨34, _⟩ => ⟨S16896x16, .f32⟩
  | .hbm, ⟨35, _⟩ => ⟨S16896x16, .f32⟩
  | .hbm, ⟨36, _⟩ => ⟨S16896x16, .f32⟩
  | .hbm, ⟨37, _⟩ => ⟨S_, .f32⟩
  | .hbm, ⟨38, _⟩ => ⟨S16896x64, .f32⟩
  | .hbm, ⟨39, _⟩ => ⟨S_, .f32⟩
  | .hbm, ⟨40, _⟩ => ⟨S16896x32, .f32⟩
  | .hbm, ⟨41, _⟩ => ⟨S16896x128, .f32⟩
  | .hbm, ⟨42, _⟩ => ⟨S_, .f32⟩
  | .hbm, ⟨43, _⟩ => ⟨S16896x64, .f32⟩
  | .hbm, ⟨44, _⟩ => ⟨S16896x16, .f32⟩
  | .hbm, ⟨45, _⟩ => ⟨S_, .f32⟩
  | .hbm, ⟨46, _⟩ => ⟨S16896x32, .f32⟩
  | .hbm, ⟨47, _⟩ => ⟨S16896x128, .f32⟩
  | .hbm, ⟨48, _⟩ => ⟨S384x8x96, .f32⟩
  | .hbm, ⟨49, _⟩ => ⟨S_, .i32⟩
  | .hbm, ⟨50, _⟩ => ⟨S_, .f32⟩
  | .hbm, ⟨51, _⟩ => ⟨S384x8x128, .f32⟩
  | .hbm, ⟨52, _⟩ => ⟨S384x1024, .f32⟩
  | .hbm, ⟨53, _⟩ => ⟨S384x1024, .bf16⟩
  | .hbm, ⟨54, _⟩ => ⟨S256x8x128, .f32⟩
  | .hbm, ⟨55, _⟩ => ⟨S256x8x64, .f32⟩
  | .hbm, ⟨56, _⟩ => ⟨S256x512, .f32⟩
  | .hbm, ⟨57, _⟩ => ⟨S256x8x64, .f32⟩
  | .hbm, ⟨58, _⟩ => ⟨S_, .i32⟩
  | .hbm, ⟨59, _⟩ => ⟨S_, .f32⟩
  | .hbm, ⟨60, _⟩ => ⟨S256x8x128, .f32⟩
  | .hbm, ⟨61, _⟩ => ⟨S256x1024, .f32⟩
  | .hbm, ⟨62, _⟩ => ⟨S256x1024, .bf16⟩
  | .hbm, ⟨63, _⟩ => ⟨S256x8x64, .f32⟩
  | .hbm, ⟨64, _⟩ => ⟨S256x512, .f32⟩
  | .hbm, ⟨65, _⟩ => ⟨S256x512, .bf16⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S128, .f32⟩
  | .hbm, ⟨76, _⟩ => ⟨S1x128, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S32, .f32⟩
  | .hbm, ⟨81, _⟩ => ⟨S128, .f32⟩
  | .hbm, ⟨82, _⟩ => ⟨S1x128, .f32⟩
  | .hbm, ⟨83, _⟩ => ⟨S1x384, .f32⟩
  | .hbm, ⟨84, _⟩ => ⟨S1x256, .f32⟩
  | .hbm, ⟨85, _⟩ => ⟨S16896x1024, .bf16⟩
  | .hbm, ⟨86, _⟩ => ⟨S16896x256, .f32⟩
  | .hbm, ⟨87, _⟩ => ⟨S16896x32, .f32⟩
  | .hbm, ⟨88, _⟩ => ⟨S16896x1024, .bf16⟩
  | .hbm, ⟨89, _⟩ => ⟨S16896x512, .bf16⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S1x384, .f32⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S384x1024, .bf16⟩
  | .local _ .vmem, ⟨15, _⟩ => ⟨S256x1024, .bf16⟩
  | .local _ .vmem, ⟨16, _⟩ => ⟨S256x512, .bf16⟩
  | .local _ .vmem, ⟨17, _⟩ => ⟨S256x1024, .bf16⟩
  | .local _ .vmem, ⟨18, _⟩ => ⟨S256x1024, .bf16⟩
  | .local _ .vmem, ⟨19, _⟩ => ⟨S256x256, .f32⟩
  | .local _ .vmem, ⟨20, _⟩ => ⟨S256x256, .f32⟩
  | .local _ .vmem, ⟨21, _⟩ => ⟨S256x32, .f32⟩
  | .local _ .vmem, ⟨22, _⟩ => ⟨S256x32, .f32⟩
  | .local _ .vmem, ⟨23, _⟩ => ⟨S256x1024, .bf16⟩
  | .local _ .vmem, ⟨24, _⟩ => ⟨S256x1024, .bf16⟩
  | .local _ .vmem, ⟨25, _⟩ => ⟨S256x512, .bf16⟩
  | .local _ .vmem, ⟨26, _⟩ => ⟨S256x512, .bf16⟩
  | _, _ => ⟨S16896x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_call1_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60_0 : Ref sig .tc := ⟨.hbm, 85, rfl⟩
abbrev main_v60_1 : Ref sig .tc := ⟨.hbm, 86, rfl⟩
abbrev main_v60_2 : Ref sig .tc := ⟨.hbm, 87, rfl⟩
abbrev main_v60_3 : Ref sig .tc := ⟨.hbm, 88, rfl⟩
abbrev main_v60_4 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c51_i32 : BitVec 32 := 51#32
  let c0_i32 : BitVec 32 := 0#32
  ![arg0.toNat, c51_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16896x6656 : Shape := ⟨2, ![16896, 6656]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S16896 : Shape := ⟨1, ![16896]⟩
abbrev S16896x256 : Shape := ⟨2, ![16896, 256]⟩
abbrev S16896x384 : Shape := ⟨2, ![16896, 384]⟩
abbrev S16896x32 : Shape := ⟨2, ![16896, 32]⟩
abbrev S16896x1 : Shape := ⟨2, ![16896, 1]⟩
abbrev S1x384 : Shape := ⟨2, ![1, 384]⟩
abbrev S16896x768 : Shape := ⟨2, ![16896, 768]⟩
abbrev S16896x8x96 : Shape := ⟨3, ![16896, 8, 96]⟩
abbrev S16896x8x32 : Shape := ⟨3, ![16896, 8, 32]⟩
abbrev S16896x8x64 : Shape := ⟨3, ![16896, 8, 64]⟩
abbrev S16896x8 : Shape := ⟨2, ![16896, 8]⟩
abbrev S16896x8x1 : Shape := ⟨3, ![16896, 8, 1]⟩
abbrev S1x1x64 : Shape := ⟨3, ![1, 1, 64]⟩
abbrev S1x1x32 : Shape := ⟨3, ![1, 1, 32]⟩
abbrev S16 : Shape := ⟨1, ![16]⟩
abbrev S1x16 : Shape := ⟨2, ![1, 16]⟩
abbrev S16896x16 : Shape := ⟨2, ![16896, 16]⟩
abbrev S16896x1x16 : Shape := ⟨3, ![16896, 1, 16]⟩
abbrev S16896x8x16 : Shape := ⟨3, ![16896, 8, 16]⟩
abbrev S16896x8x128 : Shape := ⟨3, ![16896, 8, 128]⟩
abbrev S1x256 : Shape := ⟨2, ![1, 256]⟩
abbrev S1x32 : Shape := ⟨2, ![1, 32]⟩
abbrev S16896x1x32 : Shape := ⟨3, ![16896, 1, 32]⟩
abbrev S16896x1024 : Shape := ⟨2, ![16896, 1024]⟩
abbrev S16896x512 : Shape := ⟨2, ![16896, 512]⟩

abbrev nBuf : Space → Nat
  | .hbm => 208
  | .vmem => 0
  | .smem => 0
  | _ => 0

abbrev hbmTy0_0 (i : Nat) : BufTy := match i % 128 with
  | 0 => ⟨S16896x6656, .f32⟩
  | 1 => ⟨S384, .f32⟩
  | 2 => ⟨S256, .f32⟩
  | 3 => ⟨S384x768, .f32⟩
  | 4 => ⟨S256x1024, .f32⟩
  | 5 => ⟨S64, .f32⟩
  | 6 => ⟨S64, .f32⟩
  | 7 => ⟨S32, .f32⟩
  | 8 => ⟨S32, .f32⟩
  | 9 => ⟨S2048, .i32⟩
  | 10 => ⟨S1x2048, .i32⟩
  | 11 => ⟨S8x2048, .i32⟩
  | 12 => ⟨S16384, .i32⟩
  | 13 => ⟨S4, .i32⟩
  | 14 => ⟨S_, .i32⟩
  | 15 => ⟨S4, .i32⟩
  | 16 => ⟨S4, .i32⟩
  | 17 => ⟨S1x4, .i32⟩
  | 18 => ⟨S128x4, .i32⟩
  | 19 => ⟨S512, .i32⟩
  | 20 => ⟨S16896, .i32⟩
  | 21 => ⟨S16896x256, .f32⟩
  | 22 => ⟨S16896x384, .f32⟩
  | 23 => ⟨S16896x32, .f32⟩
  | 24 => ⟨S16896x384, .f32⟩
  | 25 => ⟨S_, .f32⟩
  | 26 => ⟨S16896, .f32⟩
  | 27 => ⟨S16896x1, .f32⟩
  | 28 => ⟨S_, .f32⟩
  | 29 => ⟨S16896x1, .f32⟩
  | 30 => ⟨S16896x1, .f32⟩
  | 31 => ⟨S_, .f32⟩
  | 32 => ⟨S16896x1, .f32⟩
  | 33 => ⟨S16896x1, .f32⟩
  | 34 => ⟨S16896x1, .f32⟩
  | 35 => ⟨S16896x384, .f32⟩
  | 36 => ⟨S16896x384, .f32⟩
  | 37 => ⟨S1x384, .f32⟩
  | 38 => ⟨S16896x384, .f32⟩
  | 39 => ⟨S16896x384, .f32⟩
  | 40 => ⟨S16896x768, .f32⟩
  | 41 => ⟨S16896x8x96, .f32⟩
  | 42 => ⟨S_, .f32⟩
  | 43 => ⟨S16896x8x32, .f32⟩
  | 44 => ⟨S16896x8x64, .f32⟩
  | 45 => ⟨S16896x8x64, .f32⟩
  | 46 => ⟨S_, .f32⟩
  | 47 => ⟨S16896x8, .f32⟩
  | 48 => ⟨S16896x8x1, .f32⟩
  | 49 => ⟨S_, .f32⟩
  | 50 => ⟨S16896x8x1, .f32⟩
  | 51 => ⟨S16896x8x1, .f32⟩
  | 52 => ⟨S_, .f32⟩
  | 53 => ⟨S16896x8x1, .f32⟩
  | 54 => ⟨S16896x8x1, .f32⟩
  | 55 => ⟨S16896x8x1, .f32⟩
  | 56 => ⟨S16896x8x64, .f32⟩
  | 57 => ⟨S16896x8x64, .f32⟩
  | 58 => ⟨S1x1x64, .f32⟩
  | 59 => ⟨S16896x8x64, .f32⟩
  | 60 => ⟨S16896x8x64, .f32⟩
  | 61 => ⟨S_, .f32⟩
  | 62 => ⟨S64, .f32⟩
  | 63 => ⟨S64, .f32⟩
  | 64 => ⟨S1x1x64, .f32⟩
  | 65 => ⟨S16896x8x64, .f32⟩
  | 66 => ⟨S16896x8x64, .f32⟩
  | 67 => ⟨S16896x8x32, .f32⟩
  | 68 => ⟨S16896x8x32, .f32⟩
  | 69 => ⟨S_, .f32⟩
  | 70 => ⟨S16896x8, .f32⟩
  | 71 => ⟨S16896x8x1, .f32⟩
  | 72 => ⟨S_, .f32⟩
  | 73 => ⟨S16896x8x1, .f32⟩
  | 74 => ⟨S16896x8x1, .f32⟩
  | 75 => ⟨S_, .f32⟩
  | 76 => ⟨S16896x8x1, .f32⟩
  | 77 => ⟨S16896x8x1, .f32⟩
  | 78 => ⟨S16896x8x1, .f32⟩
  | 79 => ⟨S16896x8x32, .f32⟩
  | 80 => ⟨S16896x8x32, .f32⟩
  | 81 => ⟨S1x1x32, .f32⟩
  | 82 => ⟨S16896x8x32, .f32⟩
  | 83 => ⟨S16896x8x32, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16896, .f32⟩
  | 93 => ⟨S16896x1, .f32⟩
  | 94 => ⟨S1x16, .f32⟩
  | 95 => ⟨S16896x16, .f32⟩
  | 96 => ⟨S16896x16, .f32⟩
  | 97 => ⟨S16896x16, .f32⟩
  | 98 => ⟨S16896x16, .f32⟩
  | 99 => ⟨S16896x1x16, .f32⟩
  | 100 => ⟨S16896x16, .f32⟩
  | 101 => ⟨S16896x1x16, .f32⟩
  | 102 => ⟨S16896x8x16, .f32⟩
  | 103 => ⟨S16896x8x16, .f32⟩
  | 104 => ⟨S16896x8x16, .f32⟩
  | 105 => ⟨S16896x8x16, .f32⟩
  | 106 => ⟨S16896x8x16, .f32⟩
  | 107 => ⟨S16896x8x16, .f32⟩
  | 108 => ⟨S16896x8x16, .f32⟩
  | 109 => ⟨S16896x8x16, .f32⟩
  | 110 => ⟨S16896x8x16, .f32⟩
  | 111 => ⟨S16896x8x16, .f32⟩
  | 112 => ⟨S16896x8x16, .f32⟩
  | 113 => ⟨S16896x8x16, .f32⟩
  | 114 => ⟨S16896x8x32, .f32⟩
  | 115 => ⟨S_, .f32⟩
  | 116 => ⟨S16896x8x32, .f32⟩
  | 117 => ⟨S16896x8x32, .f32⟩
  | 118 => ⟨S16896x8x128, .f32⟩
  | 119 => ⟨S16896x256, .f32⟩
  | 120 => ⟨S_, .f32⟩
  | 121 => ⟨S16896, .f32⟩
  | 122 => ⟨S16896x1, .f32⟩
  | 123 => ⟨S_, .f32⟩
  | 124 => ⟨S16896x1, .f32⟩
  | 125 => ⟨S16896x1, .f32⟩
  | 126 => ⟨S_, .f32⟩
  | 127 => ⟨S16896x1, .f32⟩
  | _ => ⟨S16896x6656, .f32⟩

abbrev hbmTy0_1 (i : Nat) : BufTy := match i % 128 with
  | 0 => ⟨S16896x1, .f32⟩
  | 1 => ⟨S16896x1, .f32⟩
  | 2 => ⟨S16896x256, .f32⟩
  | 3 => ⟨S16896x256, .f32⟩
  | 4 => ⟨S1x256, .f32⟩
  | 5 => ⟨S16896x256, .f32⟩
  | 6 => ⟨S16896x256, .f32⟩
  | 7 => ⟨S16896x32, .f32⟩
  | 8 => ⟨S_, .f32⟩
  | 9 => ⟨S16896, .f32⟩
  | 10 => ⟨S16896x1, .f32⟩
  | 11 => ⟨S_, .f32⟩
  | 12 => ⟨S16896x1, .f32⟩
  | 13 => ⟨S16896x1, .f32⟩
  | 14 => ⟨S_, .f32⟩
  | 15 => ⟨S16896x1, .f32⟩
  | 16 => ⟨S16896x1, .f32⟩
  | 17 => ⟨S16896x1, .f32⟩
  | 18 => ⟨S16896x32, .f32⟩
  | 19 => ⟨S16896x32, .f32⟩
  | 20 => ⟨S1x32, .f32⟩
  | 21 => ⟨S16896x32, .f32⟩
  | 22 => ⟨S16896x32, .f32⟩
  | 23 => ⟨S16896x1x32, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16896, .f32⟩
  | 33 => ⟨S16896x1, .f32⟩
  | 34 => ⟨S1x16, .f32⟩
  | 35 => ⟨S16896x16, .f32⟩
  | 36 => ⟨S16896x16, .f32⟩
  | 37 => ⟨S16896x16, .f32⟩
  | 38 => ⟨S16896x16, .f32⟩
  | 39 => ⟨S16896x1x16, .f32⟩
  | 40 => ⟨S16896x16, .f32⟩
  | 41 => ⟨S16896x1x16, .f32⟩
  | 42 => ⟨S16896x1x16, .f32⟩
  | 43 => ⟨S16896x1x16, .f32⟩
  | 44 => ⟨S16896x1x16, .f32⟩
  | 45 => ⟨S16896x1x16, .f32⟩
  | 46 => ⟨S16896x1x16, .f32⟩
  | 47 => ⟨S16896x1x16, .f32⟩
  | 48 => ⟨S16896x1x16, .f32⟩
  | 49 => ⟨S16896x1x16, .f32⟩
  | 50 => ⟨S16896x1x32, .f32⟩
  | 51 => ⟨S16896x1024, .f32⟩
  | 52 => ⟨S16896x8x128, .f32⟩
  | 53 => ⟨S16896x8x64, .f32⟩
  | 54 => ⟨S16896x8x64, .f32⟩
  | 55 => ⟨S_, .f32⟩
  | 56 => ⟨S16896x8, .f32⟩
  | 57 => ⟨S16896x8x1, .f32⟩
  | 58 => ⟨S_, .f32⟩
  | 59 => ⟨S16896x8x1, .f32⟩
  | 60 => ⟨S16896x8x1, .f32⟩
  | 61 => ⟨S_, .f32⟩
  | 62 => ⟨S16896x8x1, .f32⟩
  | 63 => ⟨S16896x8x1, .f32⟩
  | 64 => ⟨S16896x8x1, .f32⟩
  | 65 => ⟨S16896x8x64, .f32⟩
  | 66 => ⟨S16896x8x64, .f32⟩
  | 67 => ⟨S_, .f32⟩
  | 68 => ⟨S16896x8x64, .f32⟩
  | 69 => ⟨S16896x8x64, .f32⟩
  | 70 => ⟨S16896x8x32, .f32⟩
  | 71 => ⟨S16896x8x128, .f32⟩
  | 72 => ⟨S16896x1024, .f32⟩
  | 73 => ⟨S16896x1024, .bf16⟩
  | 74 => ⟨S16896x32, .f32⟩
  | 75 => ⟨S16896x1024, .f32⟩
  | 76 => ⟨S16896x1024, .bf16⟩
  | 77 => ⟨S16896x8x64, .f32⟩
  | 78 => ⟨S16896x512, .f32⟩
  | 79 => ⟨S16896x512, .bf16⟩
  | _ => ⟨S16896x6656, .f32⟩

abbrev hbmTy (i : Nat) : BufTy := match i / 128 with
  | 0 => hbmTy0_0 i
  | 1 => hbmTy0_1 i
  | _ => ⟨S16896x6656, .f32⟩

abbrev bufTy : (tb : Table) → Fin (tcTables nBuf tb) → BufTy
  | .hbm, ⟨i, _⟩ => hbmTy i
  | _, _ => ⟨S16896x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_12 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_13 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_v99 : Ref sig .tc := ⟨.hbm, 125, rfl⟩
abbrev main_cst_15 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_16 : Ref sig .tc := ⟨.hbm, 136, rfl⟩
abbrev main_v109 : Ref sig .tc := ⟨.hbm, 137, rfl⟩
abbrev main_v110 : Ref sig .tc := ⟨.hbm, 138, rfl⟩
abbrev main_cst_17 : Ref sig .tc := ⟨.hbm, 139, rfl⟩
abbrev main_v111 : Ref sig .tc := ⟨.hbm, 140, rfl⟩
abbrev main_v112 : Ref sig .tc := ⟨.hbm, 141, rfl⟩
abbrev main_cst_18 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_19 : Ref sig .tc := ⟨.hbm, 154, rfl⟩
abbrev main_v124 : Ref sig .tc := ⟨.hbm, 155, rfl⟩
abbrev main_v125 : Ref sig .tc := ⟨.hbm, 156, rfl⟩
abbrev main_cst_20 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_21 : Ref sig .tc := ⟨.hbm, 183, rfl⟩
abbrev main_v151 : Ref sig .tc := ⟨.hbm, 184, rfl⟩
abbrev main_v152 : Ref sig .tc := ⟨.hbm, 185, rfl⟩
abbrev main_cst_22 : Ref sig .tc := ⟨.hbm, 186, rfl⟩
abbrev main_v153 : Ref sig .tc := ⟨.hbm, 187, rfl⟩
abbrev main_v154 : Ref sig .tc := ⟨.hbm, 188, rfl⟩
abbrev main_cst_23 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_24 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩

abbrev nD : Nat := 1
abbrev τ : Topo := Topo.v7x

variable {F : FTy → Type} [FloatOps F]
-- ==== Kernel6.lean ====
abbrev S16896x6656 : Shape := ⟨2, ![16896, 6656]⟩
abbrev S512 : Shape := ⟨1, ![512]⟩
abbrev S4x128 : Shape := ⟨2, ![4, 128]⟩
abbrev S128x4x128x128 : Shape := ⟨4, ![128, 4, 128, 128]⟩
abbrev S16 : Shape := ⟨1, ![16]⟩
abbrev S16x1 : Shape := ⟨2, ![16, 1]⟩
abbrev S_ : Shape := ⟨0, ![]⟩
abbrev S1x16 : Shape := ⟨2, ![1, 16]⟩
abbrev S16x16 : Shape := ⟨2, ![16, 16]⟩
abbrev S4x1x128 : Shape := ⟨3, ![4, 1, 128]⟩
abbrev S1x128x4x128x128 : Shape := ⟨5, ![1, 128, 4, 128, 128]⟩
abbrev S512x512 : Shape := ⟨2, ![512, 512]⟩
abbrev S16x128 : Shape := ⟨2, ![16, 128]⟩
abbrev S1x1x128 : Shape := ⟨3, ![1, 1, 128]⟩
abbrev S1x4x1x128x128 : Shape := ⟨5, ![1, 4, 1, 128, 128]⟩
abbrev S4x1x128x128 : Shape := ⟨4, ![4, 1, 128, 128]⟩
abbrev S1x128 : Shape := ⟨2, ![1, 128]⟩
abbrev S16x384 : Shape := ⟨2, ![16, 384]⟩
abbrev S1x1x1x128x128 : Shape := ⟨5, ![1, 1, 1, 128, 128]⟩
abbrev S128x128 : Shape := ⟨2, ![128, 128]⟩
abbrev S1x1x128x128 : Shape := ⟨4, ![1, 1, 128, 128]⟩

abbrev nBuf : Space → Nat
  | .hbm => 58
  | .vmem => 19
  | .smem => 0
  | _ => 0

abbrev bufTy : (tb : Table) → Fin (tcTables nBuf tb) → BufTy
  | .hbm, ⟨0, _⟩ => ⟨S16896x6656, .f32⟩
  | .hbm, ⟨1, _⟩ => ⟨S512, .f32⟩
  | .hbm, ⟨2, _⟩ => ⟨S4x128, .f32⟩
  | .hbm, ⟨3, _⟩ => ⟨S128x4x128x128, .f32⟩
  | .hbm, ⟨4, _⟩ => ⟨S16, .i32⟩
  | .hbm, ⟨5, _⟩ => ⟨S16x1, .i32⟩
  | .hbm, ⟨6, _⟩ => ⟨S_, .i32⟩
  | .hbm, ⟨7, _⟩ => ⟨S_, .i32⟩
  | .hbm, ⟨8, _⟩ => ⟨S16x1, .i32⟩
  | .hbm, ⟨9, _⟩ => ⟨S16x1, .i32⟩
  | .hbm, ⟨10, _⟩ => ⟨S16x1, .i32⟩
  | .hbm, ⟨11, _⟩ => ⟨S_, .i32⟩
  | .hbm, ⟨12, _⟩ => ⟨S16x1, .i32⟩
  | .hbm, ⟨13, _⟩ => ⟨S16x1, .i1⟩
  | .hbm, ⟨14, _⟩ => ⟨S16x1, .i32⟩
  | .hbm, ⟨15, _⟩ => ⟨S16x1, .i32⟩
  | .hbm, ⟨16, _⟩ => ⟨S_, .i32⟩
  | .hbm, ⟨17, _⟩ => ⟨S16x1, .i32⟩
  | .hbm, ⟨18, _⟩ => ⟨S16x1, .i1⟩
  | .hbm, ⟨19, _⟩ => ⟨S16x1, .i1⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x1, .i32⟩
  | .hbm, ⟨24, _⟩ => ⟨S1x16, .i32⟩
  | .hbm, ⟨25, _⟩ => ⟨S_, .i32⟩
  | .hbm, ⟨26, _⟩ => ⟨S_, .i32⟩
  | .hbm, ⟨27, _⟩ => ⟨S1x16, .i32⟩
  | .hbm, ⟨28, _⟩ => ⟨S1x16, .i32⟩
  | .hbm, ⟨29, _⟩ => ⟨S1x16, .i32⟩
  | .hbm, ⟨30, _⟩ => ⟨S_, .i32⟩
  | .hbm, ⟨31, _⟩ => ⟨S1x16, .i32⟩
  | .hbm, ⟨32, _⟩ => ⟨S1x16, .i1⟩
  | .hbm, ⟨33, _⟩ => ⟨S1x16, .i32⟩
  | .hbm, ⟨34, _⟩ => ⟨S1x16, .i32⟩
  | .hbm, ⟨35, _⟩ => ⟨S_, .i32⟩
  | .hbm, ⟨36, _⟩ => ⟨S1x16, .i32⟩
  | .hbm, ⟨37, _⟩ => ⟨S1x16, .i1⟩
  | .hbm, ⟨38, _⟩ => ⟨S1x16, .i1⟩
  | .hbm, ⟨39, _⟩ => ⟨S_, .i32⟩
  | .hbm, ⟨40, _⟩ => ⟨S1x16, .i32⟩
  | .hbm, ⟨41, _⟩ => ⟨S1x16, .i32⟩
  | .hbm, ⟨42, _⟩ => ⟨S1x16, .i32⟩
  | .hbm, ⟨43, _⟩ => ⟨S16x16, .i32⟩
  | .hbm, ⟨44, _⟩ => ⟨S16x16, .i32⟩
  | .hbm, ⟨45, _⟩ => ⟨S16x16, .i1⟩
  | .hbm, ⟨46, _⟩ => ⟨S16x1, .i32⟩
  | .hbm, ⟨47, _⟩ => ⟨S1x16, .i32⟩
  | .hbm, ⟨48, _⟩ => ⟨S16x16, .i32⟩
  | .hbm, ⟨49, _⟩ => ⟨S16x16, .i32⟩
  | .hbm, ⟨50, _⟩ => ⟨S16x16, .i1⟩
  | .hbm, ⟨51, _⟩ => ⟨S16x16, .i1⟩
  | .hbm, ⟨52, _⟩ => ⟨S16x16, .bf16⟩
  | .hbm, ⟨53, _⟩ => ⟨S4x1x128, .f32⟩
  | .hbm, ⟨54, _⟩ => ⟨S4x1x128, .f32⟩
  | .hbm, ⟨55, _⟩ => ⟨S1x128x4x128x128, .f32⟩
  | .hbm, ⟨56, _⟩ => ⟨S512x512, .bf16⟩
  | .hbm, ⟨57, _⟩ => ⟨S128x4x128x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S16x16, .bf16⟩
  | .local _ .vmem, ⟨13, _⟩ => ⟨S1x4x1x128x128, .f32⟩
  | .local _ .vmem, ⟨14, _⟩ => ⟨S1x4x1x128x128, .f32⟩
  | .local _ .vmem, ⟨15, _⟩ => ⟨S16x128, .bf16⟩
  | .local _ .vmem, ⟨16, _⟩ => ⟨S16x128, .bf16⟩
  | .local _ .vmem, ⟨17, _⟩ => ⟨S4x1x128x128, .f32⟩
  | .local _ .vmem, ⟨18, _⟩ => ⟨S4x1x128x128, .f32⟩
  | _, _ => ⟨S16896x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18_0 : Ref sig .tc := ⟨.hbm, 56, rfl⟩
abbrev main_v18_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c4_i32 : BitVec 32 := 4#32
  let v1 : BitVec 32 := Scalar.addi c4_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c8_i32 : BitVec 32 := 8#32
  let v1 : BitVec 32 := Scalar.addi c8_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c12_i32 : BitVec 32 := 12#32
  let v1 : BitVec 32 := Scalar.addi c12_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c16_i32 : BitVec 32 := 16#32
  let v1 : BitVec 32 := Scalar.addi c16_i32 arg1
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S16x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16896x6656 : Shape := ⟨2, ![16896, 6656]⟩
abbrev S512 : Shape := ⟨1, ![512]⟩
abbrev S4x128 : Shape := ⟨2, ![4, 128]⟩
abbrev S128x4x128x128 : Shape := ⟨4, ![128, 4, 128, 128]⟩
abbrev S512x6656 : Shape := ⟨2, ![512, 6656]⟩
abbrev S512x512 : Shape := ⟨2, ![512, 512]⟩
abbrev S128x4x4x128 : Shape := ⟨4, ![128, 4, 4, 128]⟩
abbrev S_ : Shape := ⟨0, ![]⟩
abbrev S1x1x4x128 : Shape := ⟨4, ![1, 1, 4, 128]⟩
abbrev S4x4 : Shape := ⟨2, ![4, 4]⟩
abbrev S128x4x4x1x128 : Shape := ⟨5, ![128, 4, 4, 1, 128]⟩
abbrev S128x4x1x4x128 : Shape := ⟨5, ![128, 4, 1, 4, 128]⟩
abbrev S128x4x4x4x128 : Shape := ⟨5, ![128, 4, 4, 4, 128]⟩
abbrev S4x4x1 : Shape := ⟨3, ![4, 4, 1]⟩
abbrev S128x4x4x4 : Shape := ⟨4, ![128, 4, 4, 4]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩

abbrev nBuf : Space → Nat
  | .hbm => 126
  | .vmem => 0
  | .smem => 0
  | _ => 0

abbrev bufTy : (tb : Table) → Fin (tcTables nBuf tb) → BufTy
  | .hbm, ⟨0, _⟩ => ⟨S16896x6656, .f32⟩
  | .hbm, ⟨1, _⟩ => ⟨S512, .f32⟩
  | .hbm, ⟨2, _⟩ => ⟨S4x128, .f32⟩
  | .hbm, ⟨3, _⟩ => ⟨S128x4x128x128, .f32⟩
  | .hbm, ⟨4, _⟩ => ⟨S512x6656, .f32⟩
  | .hbm, ⟨5, _⟩ => ⟨S512x512, .f32⟩
  | .hbm, ⟨6, _⟩ => ⟨S128x4x4x128, .f32⟩
  | .hbm, ⟨7, _⟩ => ⟨S4x128, .f32⟩
  | .hbm, ⟨8, _⟩ => ⟨S_, .f32⟩
  | .hbm, ⟨9, _⟩ => ⟨S4x128, .f32⟩
  | .hbm, ⟨10, _⟩ => ⟨S4x128, .f32⟩
  | .hbm, ⟨11, _⟩ => ⟨S128x4x4x128, .f32⟩
  | .hbm, ⟨12, _⟩ => ⟨S128x4x4x128, .f32⟩
  | .hbm, ⟨13, _⟩ => ⟨S_, .f32⟩
  | .hbm, ⟨14, _⟩ => ⟨S128x4x4x128, .f32⟩
  | .hbm, ⟨15, _⟩ => ⟨S128x4x4x128, .f32⟩
  | .hbm, ⟨16, _⟩ => ⟨S_, .f32⟩
  | .hbm, ⟨17, _⟩ => ⟨S128x4x4x128, .f32⟩
  | .hbm, ⟨18, _⟩ => ⟨S128x4x4x128, .f32⟩
  | .hbm, ⟨19, _⟩ => ⟨S1x1x4x128, .f32⟩
  | .hbm, ⟨20, _⟩ => ⟨S128x4x4x128, .f32⟩
  | .hbm, ⟨21, _⟩ => ⟨S128x4x4x128, .f32⟩
  | .hbm, ⟨22, _⟩ => ⟨S1x1x4x128, .f32⟩
  | .hbm, ⟨23, _⟩ => ⟨S128x4x4x128, .f32⟩
  | .hbm, ⟨24, _⟩ => ⟨S128x4x4x128, .f32⟩
  | .hbm, ⟨25, _⟩ => ⟨S128x4x4x128, .f32⟩
  | .hbm, ⟨26, _⟩ => ⟨S512x512, .f32⟩
  | .hbm, ⟨27, _⟩ => ⟨S128x4x4x128, .f32⟩
  | .hbm, ⟨28, _⟩ => ⟨S128x4x4x128, .f32⟩
  | .hbm, ⟨29, _⟩ => ⟨S128x4x4x128, .f32⟩
  | .hbm, ⟨30, _⟩ => ⟨S_, .f32⟩
  | .hbm, ⟨31, _⟩ => ⟨S128x4x4x128, .f32⟩
  | .hbm, ⟨32, _⟩ => ⟨S128x4x4x128, .f32⟩
  | .hbm, ⟨33, _⟩ => ⟨S_, .f32⟩
  | .hbm, ⟨34, _⟩ => ⟨S128x4x4x128, .f32⟩
  | .hbm, ⟨35, _⟩ => ⟨S128x4x4x128, .f32⟩
  | .hbm, ⟨36, _⟩ => ⟨S128x4x4x128, .f32⟩
  | .hbm, ⟨37, _⟩ => ⟨S128x4x4x128, .f32⟩
  | .hbm, ⟨38, _⟩ => ⟨S128x4x4x128, .f32⟩
  | .hbm, ⟨39, _⟩ => ⟨S128x4x4x128, .f32⟩
  | .hbm, ⟨40, _⟩ => ⟨S128x4x4x128, .f32⟩
  | .hbm, ⟨41, _⟩ => ⟨S128x4x4x128, .f32⟩
  | .hbm, ⟨42, _⟩ => ⟨S512x512, .f32⟩
  | .hbm, ⟨43, _⟩ => ⟨S128x4x4x128, .f32⟩
  | .hbm, ⟨44, _⟩ => ⟨S128x4x4x128, .f32⟩
  | .hbm, ⟨45, _⟩ => ⟨S_, .i1⟩
  | .hbm, ⟨46, _⟩ => ⟨S4x4, .i1⟩
  | .hbm, ⟨47, _⟩ => ⟨S4x4, .i32⟩
  | .hbm, ⟨48, _⟩ => ⟨S_, .i32⟩
  | .hbm, ⟨49, _⟩ => ⟨S4x4, .i32⟩
  | .hbm, ⟨50, _⟩ => ⟨S4x4, .i32⟩
  | .hbm, ⟨51, _⟩ => ⟨S4x4, .i32⟩
  | .hbm, ⟨52, _⟩ => ⟨S4x4, .i1⟩
  | .hbm, ⟨53, _⟩ => ⟨S_, .i1⟩
  | .hbm, ⟨54, _⟩ => ⟨S4x4, .i1⟩
  | .hbm, ⟨55, _⟩ => ⟨S4x4, .i1⟩
  | .hbm, ⟨56, _⟩ => ⟨S_, .f32⟩
  | .hbm, ⟨57, _⟩ => ⟨S_, .f32⟩
  | .hbm, ⟨58, _⟩ => ⟨S128x4x4x128, .f32⟩
  | .hbm, ⟨59, _⟩ => ⟨S128x4x4x1x128, .f32⟩
  | .hbm, ⟨60, _⟩ => ⟨S128x4x1x4x128, .f32⟩
  | .hbm, ⟨61, _⟩ => ⟨S128x4x4x4x128, .f32⟩
  | .hbm, ⟨62, _⟩ => ⟨S128x4x4x4x128, .f32⟩
  | .hbm, ⟨63, _⟩ => ⟨S128x4x4x4x128, .f32⟩
  | .hbm, ⟨64, _⟩ => ⟨S4x4x1, .i1⟩
  | .hbm, ⟨65, _⟩ => ⟨S_, .f32⟩
  | .hbm, ⟨66, _⟩ => ⟨S128x4x4x4x128, .f32⟩
  | .hbm, ⟨67, _⟩ => ⟨S128x4x4x4x128, .f32⟩
  | .hbm, ⟨68, _⟩ => ⟨S128x4x4x4x128, .f32⟩
  | .hbm, ⟨69, _⟩ => ⟨S_, .f32⟩
  | .hbm, ⟨70, _⟩ => ⟨S_, .f32⟩
  | .hbm, ⟨71, _⟩ => ⟨S128x4x4x4x128, .i1⟩
  | .hbm, ⟨72, _⟩ => ⟨S128x4x4x4x128, .f32⟩
  | .hbm, ⟨73, _⟩ => ⟨S128x4x4x4x128, .f32⟩
  | .hbm, ⟨74, _⟩ => ⟨S128x4x1x4x128, .f32⟩
  | .hbm, ⟨75, _⟩ => ⟨S128x4x4x4x128, .f32⟩
  | .hbm, ⟨76, _⟩ => ⟨S128x4x4x4x128, .f32⟩
  | .hbm, ⟨77, _⟩ => ⟨S128x4x4x4, .f32⟩
  | .hbm, ⟨78, _⟩ => ⟨S128x4x4x128, .f32⟩
  | .hbm, ⟨79, _⟩ => ⟨S128x4x4x128, .f32⟩
  | .hbm, ⟨80, _⟩ => ⟨S128x4x4x128, .f32⟩
  | .hbm, ⟨81, _⟩ => ⟨S128x4x4x128, .f32⟩
  | .hbm, ⟨82, _⟩ => ⟨S128x4x4x128, .f32⟩
  | .hbm, ⟨83, _⟩ => ⟨S128x4x1x128, .f32⟩
  | .hbm, ⟨84, _⟩ => ⟨S128x4x128, .f32⟩
  | .hbm, ⟨85, _⟩ => ⟨S128x4x128, .f32⟩
  | .hbm, ⟨86, _⟩ => ⟨S128x4x128x1, .f32⟩
  | .hbm, ⟨87, _⟩ => ⟨S128x4x128x128, .f32⟩
  | .hbm, ⟨88, _⟩ => ⟨S128x4x128x128, .f32⟩
  | .hbm, ⟨89, _⟩ => ⟨S128x4x4x128, .f32⟩
  | .hbm, ⟨90, _⟩ => ⟨S128x4x4x128, .f32⟩
  | .hbm, ⟨91, _⟩ => ⟨S128x4x4x128, .f32⟩
  | .hbm, ⟨92, _⟩ => ⟨S128x4x4x128, .f32⟩
  | .hbm, ⟨93, _⟩ => ⟨S128x4x128x128, .f32⟩
  | .hbm, ⟨94, _⟩ => ⟨S128x4x128x128, .f32⟩
  | .hbm, ⟨95, _⟩ => ⟨S128x4x4x128, .f32⟩
  | .hbm, ⟨96, _⟩ => ⟨S128x4x4x128, .f32⟩
  | .hbm, ⟨97, _⟩ => ⟨S_, .f32⟩
  | .hbm, ⟨98, _⟩ => ⟨S128x4x4, .f32⟩
  | .hbm, ⟨99, _⟩ => ⟨S128x4x4x1, .f32⟩
  | .hbm, ⟨100, _⟩ => ⟨S_, .f32⟩
  | .hbm, ⟨101, _⟩ => ⟨S128x4x4x1, .f32⟩
  | .hbm, ⟨102, _⟩ => ⟨S128x4x4x1, .f32⟩
  | .hbm, ⟨103, _⟩ => ⟨S_, .f32⟩
  | .hbm, ⟨104, _⟩ => ⟨S128x4x4x1, .f32⟩
  | .hbm, ⟨105, _⟩ => ⟨S128x4x4x1, .f32⟩
  | .hbm, ⟨106, _⟩ => ⟨S128x4x4x1, .f32⟩
  | .hbm, ⟨107, _⟩ => ⟨S128x4x4x128, .f32⟩
  | .hbm, ⟨108, _⟩ => ⟨S128x4x4x128, .f32⟩
  | .hbm, ⟨109, _⟩ => ⟨S1x1x4x128, .f32⟩
  | .hbm, ⟨110, _⟩ => ⟨S128x4x4x128, .f32⟩
  | .hbm, ⟨111, _⟩ => ⟨S128x4x4x128, .f32⟩
  | .hbm, ⟨112, _⟩ => ⟨S512x512, .f32⟩
  | .hbm, ⟨113, _⟩ => ⟨S128x4x4x128, .f32⟩
  | .hbm, ⟨114, _⟩ => ⟨S128x4x4x128, .f32⟩
  | .hbm, ⟨115, _⟩ => ⟨S128x4x4x128, .f32⟩
  | .hbm, ⟨116, _⟩ => ⟨S_, .f32⟩
  | .hbm, ⟨117, _⟩ => ⟨S128x4x4x128, .f32⟩
  | .hbm, ⟨118, _⟩ => ⟨S128x4x4x128, .f32⟩
  | .hbm, ⟨119, _⟩ => ⟨S_, .f32⟩
  | .hbm, ⟨120, _⟩ => ⟨S128x4x4x128, .f32⟩
  | .hbm, ⟨121, _⟩ => ⟨S128x4x4x128, .f32⟩
  | .hbm, ⟨122, _⟩ => ⟨S128x4x4x128, .f32⟩
  | .hbm, ⟨123, _⟩ => ⟨S128x4x4x128, .f32⟩
  | .hbm, ⟨124, _⟩ => ⟨S512x512, .f32⟩
  | .hbm, ⟨125, _⟩ => ⟨S512x512, .bf16⟩
  | _, _ => ⟨S16896x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v31 : Ref sig .tc := ⟨.hbm, 55, rfl⟩
abbrev main_call2_call0_cst : Ref sig .tc := ⟨.hbm, 56, rfl⟩
abbrev main_call2_call0_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_3 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_4 : Ref sig .tc := ⟨.hbm, 97, rfl⟩
abbrev main_v66 : Ref sig .tc := ⟨.hbm, 98, rfl⟩
abbrev main_v67 : Ref sig .tc := ⟨.hbm, 99, rfl⟩
abbrev main_cst_5 : Ref sig .tc := ⟨.hbm, 100, rfl⟩
abbrev main_v68 : Ref sig .tc := ⟨.hbm, 101, rfl⟩
abbrev main_v69 : Ref sig .tc := ⟨.hbm, 102, rfl⟩
abbrev main_cst_6 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩

abbrev nD : Nat := 1
abbrev τ : Topo := Topo.v7x

variable {F : FTy → Type} [FloatOps F]
-- ==== Proof.SbMath.lean ====
module
public import Idealize.ShloMosaic.Lib.Pointwise
/-!
The arithmetic of stick-breaking attention for one query, over the reals: the logarithm of the logistic
function, the mass left after the keys at and beyond a place, the weight of a key, and the weighted sum of
the values of the keys at and beyond a place. Keys are numbered by naturals, of which the first 2048 count.
-/
@[expose] public section
noncomputable section
namespace Cert.Sb
open Idealize.ShloMosaic

/-- A real sum, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of the logistic function. -/
def lsg (z : ℝ) : ℝ := min z 0 - Real.log (1 + Real.exp (-|z|))

/-- At the opposite of a score it is that at the score less the score. -/
theorem lsg_neg (z : ℝ) : lsg (-z) = lsg z - z := by
  unfold lsg
  rw [abs_neg]
  rcases le_total z 0 with h | h
  · rw [min_eq_left h, min_eq_right (by linarith)]; ring
  · rw [min_eq_right h, min_eq_left (by linarith)]; ring

/-- The logarithm of one plus an exponential, of a real. -/
theorem log_one_add_exp (r : ℝ) : Ideal.log (1 + Ideal.exp (r : EReal)) = ((Real.log (1 + Real.exp r) : ℝ) : EReal) := by
  rw [Ideal.exp_coe, ← EReal.coe_one, ← EReal.coe_add, Ideal.log_coe, if_neg (not_le.mpr (by positivity))]

/-- The absolute value of a real, as the larger of it and its opposite. -/
theorem max_neg_coe (r : ℝ) : max (r : EReal) (-(r : EReal)) = ((|r| : ℝ) : EReal) := by
  rw [← EReal.coe_neg]
  exact (EReal.coe_strictMono.monotone.map_max (a := r) (b := -r)).symm

theorem min_zero_coe (r : ℝ) : min (r : EReal) 0 = ((min r 0 : ℝ) : EReal) :=
  (EReal.coe_strictMono.monotone.map_min (a := r) (b := 0)).symm

theorem max_zero_coe (r : ℝ) : max (r : EReal) 0 = ((max r 0 : ℝ) : EReal) :=
  (EReal.coe_strictMono.monotone.map_max (a := r) (b := 0)).symm

variable (z : ℕ → ℝ) (t : ℕ) (v : ℕ → EReal)

/-- The logarithm of what key `s` leaves of the stick: nothing is taken by a key that is not before the query. -/
def left (s : ℕ) : ℝ := if s < t then lsg (z s) - z s else 0

/-- The logarithm of what the keys from `n` on leave together. -/
def rest (n : ℕ) : ℝ := ∑ s ∈ Finset.Ico n 2048, left z t s

/-- The weight of key `s`. -/
def weight (s : ℕ) : ℝ := if s < t then Real.exp (lsg (z s) + rest z t (s + 1)) else 0

/-- The weighted sum of the values of the keys from `n` on. -/
def total (n : ℕ) : EReal := ∑ s ∈ Finset.Ico n 2048, (weight z t s : EReal) * v s

theorem rest_succ {n : ℕ} (h : n < 2048) : rest z t n = left z t n + rest z t (n + 1) := by
  unfold rest
  rw [Finset.sum_eq_sum_Ico_succ_bot h]

/-- From the query's own place on nothing is taken. -/
theorem rest_of_le {n : ℕ} (h : t ≤ n) : rest z t n = 0 :=
  Finset.sum_eq_zero fun s hs => if_neg (by have := (Finset.mem_Ico.mp hs).1; omega)

theorem total_of_le {n : ℕ} (h : t ≤ n) : total z t v n = 0 :=
  Finset.sum_eq_zero fun s hs => by
    rw [weight, if_neg (by have := (Finset.mem_Ico.mp hs).1; omega)]; simp

/-- A sum over the keys from `n` on is the sum over a block of `B` keys and the sum over those after it. -/
theorem sum_block {M : Type} [AddCommMonoid M] (f : ℕ → M) (n B : ℕ) (h : n + B ≤ 2048) :
    ∑ s ∈ Finset.Ico n 2048, f s = (∑ a : Fin B, f (n + a)) + ∑ s ∈ Finset.Ico (n + B) 2048, f s := by
  rw [← Finset.sum_Ico_consecutive f (Nat.le_add_right n B) h, Finset.sum_Ico_eq_sum_range, Nat.add_sub_cancel_left,
    Finset.sum_range fun a => f (n + a)]

theorem total_block (n B : ℕ) (h : n + B ≤ 2048) :
    total z t v n = (∑ a : Fin B, (weight z t (n + a.val) : EReal) * v (n + a.val)) + total z t v (n + B) :=
  sum_block (fun s => (weight z t s : EReal) * v s) n B h

/-- What the keys after the `a`-th of a block leave: those after it in the block, then those after the block. -/
theorem rest_in_block (n B : ℕ) (h : n + B ≤ 2048) (a : Fin B) :
    rest z t (n + a + 1) = (∑ a' : Fin B, if a < a' then left z t (n + a') else 0) + rest z t (n + B) := by
  have ha := a.isLt
  unfold rest
  rw [← Finset.sum_Ico_consecutive (left z t) (show n + a + 1 ≤ n + B by omega) h]
  congr 1
  rw [Finset.sum_Ico_eq_sum_range]
  rw [show (∑ a' : Fin B, if a < a' then left z t (n + a') else 0)
    = ∑ i ∈ Finset.range B, if a.val < i then left z t (n + i) else 0 from
      (Finset.sum_range fun i => if a.val < i then left z t (n + i) else 0).symm]
  rw [← Finset.sum_range_add_sum_Ico (fun i => if a.val < i then left z t (n + i) else 0) (show a.val + 1 ≤ B by omega),
    Finset.sum_eq_zero (s := Finset.range (a.val + 1)) fun i hi => if_neg (by have := Finset.mem_range.mp hi; omega), zero_add,
    Finset.sum_Ico_eq_sum_range, show n + B - (n + a.val + 1) = B - (a.val + 1) by omega]
  refine Finset.sum_congr rfl fun i _ => ?_
  rw [if_pos (by omega)]
  congr 1; omega

/-- The sum over a window of 2048 that starts at `n` and is cut at the end of the keys. -/
theorem sum_window (f : ℕ → ℝ) (n : ℕ) :
    (∑ w : Fin 2048, if n + w.val < 2048 then f (n + w) else 0) = ∑ s ∈ Finset.Ico n 2048, f s := by
  rw [Finset.sum_Ico_eq_sum_range, show (∑ w : Fin 2048, if n + w.val < 2048 then f (n + w) else 0)
    = ∑ w ∈ Finset.range 2048, if n + w < 2048 then f (n + w) else 0 from
      (Finset.sum_range fun w => if n + w < 2048 then f (n + w) else 0).symm, ← Finset.sum_filter]
  refine Finset.sum_congr ?_ fun _ _ => rfl
  ext w; simp only [Finset.mem_filter, Finset.mem_range]; omega

/-! ## The packed projection: where the queries, keys and values of one head lie -/

/-- An element of the packed projection, by row and column. -/
def elem (x : FVec Ideal ⟨2, ![16896, 6656]⟩ .f32) (r c : ℕ) : EReal :=
  if h : r < 16896 ∧ c < 6656 then x (ix2 (⟨r, h.1⟩ : Fin 16896) (⟨c, h.2⟩ : Fin 6656)) else 0

theorem elem_of_lt (x : FVec Ideal ⟨2, ![16896, 6656]⟩ .f32) {r c : ℕ} (hr : r < 16896) (hc : c < 6656) :
    x (ix2 (⟨r, hr⟩ : Fin 16896) (⟨c, hc⟩ : Fin 6656)) = elem x r c := by rw [elem, dif_pos ⟨hr, hc⟩]

/-- The queries and the keys of the prompt rows are finite. -/
def Finite (x : FVec Ideal ⟨2, ![16896, 6656]⟩ .f32) : Prop :=
  ∀ r c, r < 16384 → c < 512 ∨ (2560 ≤ c ∧ c < 2688) → elem x r c = ((elem x r c).toReal : EReal)

/-- The score of key `s` for the query at place `t` of sequence `b`, in query head `g` of key head `h`. -/
def score (x : FVec Ideal ⟨2, ![16896, 6656]⟩ .f32) (b h g t s : ℕ) : ℝ :=
  (∑ d : Fin 64, (elem x (b * 2048 + s) (2560 + (h * 64 + d))).toReal * (elem x (b * 2048 + t) (h * 256 + g * 64 + d)).toReal) * (1 / 8)

/-- Component `d` of the value of key `s`. -/
def val (x : FVec Ideal ⟨2, ![16896, 6656]⟩ .f32) (b h d s : ℕ) : EReal := elem x (b * 2048 + s) (2688 + (h * 64 + d))

/-- Two small numbers compare as their words do, read signed. -/
theorem slt_ofNat {a b : ℕ} (ha : a < 2 ^ 31) (hb : b < 2 ^ 31) :
    (BitVec.ofNat 32 a).slt (BitVec.ofNat 32 b) = decide (a < b) := by
  have h : ∀ n : ℕ, n < 2 ^ 31 → (BitVec.ofNat 32 n).toInt = n := by
    intro n hn
    rw [BitVec.toInt_eq_toNat_cond, BitVec.toNat_ofNat, Nat.mod_eq_of_lt (by omega), if_pos (by omega)]
  rw [BitVec.slt, h a ha, h b hb]
  simp

/-- One eighth, as the word both programs hold. -/
theorem eighth : Ideal.ofBits FTy.f32 1040187392#32 = ((1 / 8 : ℝ) : EReal) := by
  simp [Ideal.ofBits, Ideal.ieee]
  rw [← EReal.coe_mul]
  norm_num

end Cert.Sb
-- ==== Proof.HgMath.lean ====
module
public import Idealize.ShloMosaic.Lib.Pointwise
public import proofs.«01_k».proof.Proof.SbMath
/-!
The arithmetic of the gated linear recurrence over one chunk of four tokens, over the extended reals, for plain functions:
the forget gate and its logarithm, the decay accumulated up to a token, what a token reads, and the state after the chunk.
-/
@[expose] public section
noncomputable section
namespace Cert.Hg
open Idealize.ShloMosaic

/-- The logistic function. -/
def gate (z : EReal) : EReal := Ideal.div 1 (1 + Ideal.exp (-z))

/-- The logarithm of the forget gate with lower bound `b`. -/
def logForget (b z : EReal) : EReal := Ideal.log (b + (1 - b) * gate z)

/-- The input gate as the kernel writes it. -/
def inputGate (b z : EReal) : EReal := (1 - b) * (1 - gate z)

/-- The decay accumulated up to and with token `j`. -/
def upTo (f : Fin 4 → EReal) (j : Fin 4) : EReal := ∑ i : Fin 4, if i ≤ j then f i else 0

/-- What token `j` reads: the state before, decayed, and the tokens up to itself, decayed. -/
def readout (q : Fin 4 → Fin 128 → EReal) (k B : Fin 4 → Fin 128 → EReal) (v : Fin 4 → EReal) (S : Fin 128 → EReal) (j : Fin 4) : EReal :=
  (∑ x, q j x * Ideal.exp (B j x) * S x)
    + ∑ s : Fin 4, if s ≤ j then (∑ x, q j x * Ideal.exp (min (B j x - B s x) 0) * k s x) * v s else 0

/-- The state's entry after the four tokens. -/
def stateAfter (k B v : Fin 4 → EReal) (S : EReal) : EReal :=
  S * Ideal.exp (B 3) + ∑ s : Fin 4, k s * Ideal.exp (min (B 3 - B s) 0) * v s

/-- A row over its root mean square, with a gain, times the gate of `g`. -/
def finish (o : Fin 128 → EReal) (gn g : EReal) (l : Fin 128) : EReal :=
  o l * Ideal.rsqrt (Ideal.div (∑ x, o x * o x) (Ideal.ofBits .f32 0x43000000#32) + Ideal.ofBits .f32 0x358637BD#32) * gn * (g * gate g)

/-- Row `4 n + j` of a block of sixteen. -/
def rowOf (n j : Fin 4) : Fin 16 := ⟨4 * n + j, by omega⟩

theorem gate_coe (z : ℝ) : gate (z : EReal) = ((1 / (1 + Real.exp (-z)) : ℝ) : EReal) := by
  have h : (1 + Real.exp (-z)) ≠ 0 := by positivity
  rw [gate, ← EReal.coe_neg, Ideal.exp_coe, ← EReal.coe_one, ← EReal.coe_add, Ideal.div_coe h, EReal.coe_one, one_mul]

/-- With the lower bound between 0 and 1 the forget gate is a positive real of at most 1, and the input gate what is left to 1. -/
theorem forget_real {b z : EReal} {r : ℝ} (hz : z = r) (h0 : 0 ≤ b) (h1 : b ≤ 1) :
    ∃ u : ℝ, 0 < u ∧ u ≤ 1 ∧ b + (1 - b) * gate z = (u : EReal) ∧ inputGate b z = ((1 - u : ℝ) : EReal) := by
  subst hz
  lift b to ℝ using ⟨fun h => by rw [h] at h1; exact absurd h1 (not_le.2 (EReal.coe_lt_top 1)), fun h => by rw [h] at h0; exact absurd h0 (by simp)⟩
  have h0 : 0 ≤ b := by exact_mod_cast h0
  have h1 : b ≤ 1 := by exact_mod_cast h1
  have hg : 0 < 1 / (1 + Real.exp (-r)) := by positivity
  have hg1 : 1 / (1 + Real.exp (-r)) ≤ 1 := by
    rw [div_le_one (by positivity)]
    linarith [Real.exp_pos (-r)]
  generalize hw : 1 / (1 + Real.exp (-r)) = w at hg hg1
  refine ⟨b + (1 - b) * w, ?_, ?_, ?_, ?_⟩
  · nlinarith
  · nlinarith
  · rw [gate_coe, hw]
    norm_cast
  · rw [inputGate, gate_coe, hw]
    have : (1 - (b + (1 - b) * w)) = (1 - b) * (1 - w) := by ring
    rw [this]
    norm_cast

theorem logForget_real {b z : EReal} {r : ℝ} (hz : z = r) (h0 : 0 ≤ b) (h1 : b ≤ 1) : ∃ f : ℝ, f ≤ 0 ∧ logForget b z = (f : EReal) := by
  obtain ⟨u, hu, hu1, e, _⟩ := forget_real hz h0 h1
  refine ⟨Real.log u, Real.log_nonpos hu.le hu1, ?_⟩
  rw [logForget, e, Ideal.log_coe, if_neg (not_le.2 hu)]

/-- The input gate as the reference writes it is the kernel's. -/
theorem inputGate_eq {b z : EReal} {r : ℝ} (hz : z = r) (h0 : 0 ≤ b) (h1 : b ≤ 1) : -(Ideal.exp (logForget b z) - 1) = inputGate b z := by
  obtain ⟨u, hu, hu1, e, e'⟩ := forget_real hz h0 h1
  rw [logForget, e, e', Ideal.log_coe, if_neg (not_le.2 hu), Ideal.exp_coe, Real.exp_log hu]
  norm_cast
  ring

/-- A decay accumulated over reals that are not positive is one, and it falls. -/
theorem upTo_real {f : Fin 4 → EReal} (hf : ∀ i, ∃ r : ℝ, r ≤ 0 ∧ f i = (r : EReal)) :
    ∃ B : Fin 4 → ℝ, (∀ j, upTo f j = (B j : EReal)) ∧ ∀ j, B 3 ≤ B j := by
  choose g hg e using hf
  refine ⟨fun j => ∑ i : Fin 4, if i ≤ j then g i else 0, fun j => ?_, fun j => ?_⟩
  · rw [Sb.coe_sum]
    refine Finset.sum_congr rfl fun i _ => ?_
    by_cases h : i ≤ j
    · rw [if_pos h, if_pos h, e]
    · rw [if_neg h, if_neg h, EReal.coe_zero]
  · refine Finset.sum_le_sum fun i _ => ?_
    rw [if_pos (by omega : i ≤ 3)]
    by_cases h : i ≤ j
    · rw [if_pos h]
    · rw [if_neg h]
      exact hg i

/-- The decay from a token to the last is at most 1, so the cap on its logarithm is nothing. -/
theorem stateAfter_eq {f : Fin 4 → EReal} (hf : ∀ i, ∃ r : ℝ, r ≤ 0 ∧ f i = (r : EReal)) (k v : Fin 4 → EReal) (S : EReal) :
    Ideal.exp (upTo f 3) * S + ∑ s : Fin 4, k s * Ideal.exp (upTo f 3 - upTo f s) * v s = stateAfter k (upTo f) v S := by
  obtain ⟨B, hB, hl⟩ := upTo_real hf
  rw [stateAfter, mul_comm S]
  refine congrArg₂ _ rfl (Finset.sum_congr rfl fun s _ => ?_)
  rw [min_eq_left]
  rw [hB, hB, ← EReal.coe_sub]
  exact_mod_cast sub_nonpos.2 (hl s)

/-- A sum over sixteen rows with the table of token pairs is the sum over the sample's own tokens. -/
theorem sum_pairs (w : Fin 16 → EReal) (n j : Fin 4) :
    (∑ x : Fin 16, (if x.val / 4 = (rowOf n j).val / 4 ∧ x ≤ rowOf n j then (1 : EReal) else 0) * w x) = upTo (fun i => w (rowOf n i)) j := by
  obtain ⟨n, hn⟩ := n
  obtain ⟨j, hj⟩ := j
  interval_cases n <;> interval_cases j <;> simp [rowOf, upTo, Fin.sum_univ_succ]

/-- The row of a sample's token in the whole array. -/
def row (b : Fin 128) (t : Fin 4) : Fin 16896 := ⟨16384 + (b * 4 + t), by omega⟩

/-- The column of a head's lane in the part of the projection that starts at `o`. -/
def col (o : ℕ) (ho : o + 512 ≤ 6656) (h : Fin 4) (d : Fin 128) : Fin 6656 := ⟨o + (h * 128 + d), by omega⟩

/-- The place of a head's lane among 512. -/
def lane (h : Fin 4) (d : Fin 128) : Fin 512 := ⟨h * 128 + d, by omega⟩

variable (X : FVec Ideal ⟨2, ![16896, 6656]⟩ .f32) (lb : FVec Ideal ⟨1, ![512]⟩ .f32) (gn : FVec Ideal ⟨2, ![4, 128]⟩ .f32) (S : FVec Ideal ⟨4, ![128, 4, 128, 128]⟩ .f32)
variable (b : Fin 128) (h t : Fin 4)

/-- The logarithm of the forget gate at a sample's token. -/
def forgets (d : Fin 128) (t : Fin 4) : EReal := logForget (lb (ix1 (lane h d))) (X (ix2 (row b t) (col 512 (by norm_num) h d)))

/-- The input gate at a sample's token. -/
def inputs (t : Fin 4) (d : Fin 128) : EReal := inputGate (lb (ix1 (lane h d))) (X (ix2 (row b t) (col 512 (by norm_num) h d)))

/-- The query at a sample's token. -/
def query (t : Fin 4) (d : Fin 128) : EReal := X (ix2 (row b t) (col 1024 (by norm_num) h d)) * gate (X (ix2 (row b t) (col 1024 (by norm_num) h d)))

/-- The value at a sample's token. -/
def value (v : Fin 128) (t : Fin 4) : EReal := X (ix2 (row b t) (col 1536 (by norm_num) h v))

/-- The mixer's output at a sample's token. -/
def mixed (l : Fin 128) : EReal :=
  finish (fun l => readout (query X b h) (inputs X lb b h) (fun t d => upTo (forgets X lb b h d) t) (value X b h l) (fun d => S (ix4 b h d l)) t)
    (gn (ix2 h l)) (X (ix2 (row b t) (col 2048 (by norm_num) h l))) l

/-- A sample's state after its four tokens. -/
def states (d v : Fin 128) : EReal :=
  stateAfter (fun t => inputs X lb b h t d) (upTo (forgets X lb b h d)) (value X b h v) (S (ix4 b h d v))

/-- What the precondition says: the forget gate's logits are reals and its lower bounds lie between 0 and 1. -/
structure Good : Prop where
  logits : ∀ b h t d, ∃ r : ℝ, X (ix2 (row b t) (col 512 (by norm_num) h d)) = (r : EReal)
  nonneg : ∀ i, 0 ≤ lb (ix1 i)
  le_one : ∀ i, lb (ix1 i) ≤ 1

variable {X lb}
theorem Good.forgets (g : Good X lb) (d : Fin 128) (t : Fin 4) : ∃ r : ℝ, r ≤ 0 ∧ Hg.forgets X lb b h d t = (r : EReal) := by
  obtain ⟨r, hr⟩ := g.logits b h t d
  exact logForget_real hr (g.nonneg _) (g.le_one _)

theorem Good.inputs (g : Good X lb) (t : Fin 4) (d : Fin 128) : -(Ideal.exp (Hg.forgets X lb b h d t) - 1) = Hg.inputs X lb b h t d := by
  obtain ⟨r, hr⟩ := g.logits b h t d
  exact inputGate_eq hr (g.nonneg _) (g.le_one _)
end Cert.Hg
-- ==== Proof.HgCore.lean ====
module
public import proofs.«01_k».proof.Defs
public import proofs.«01_k».proof.Proof.Gen.Kernel6Ideal.Value
public import proofs.«01_k».proof.Proof.HgMath
public import Idealize.ShloMosaic.PureOps.Ideal
public import Idealize.ShloMosaic.Lib.Pointwise
import Idealize.ShloMosaic.Lib.Pipeline.ValueKit
import Idealize.ShloMosaic.Lib.Claim
/-!
What the body of the recurrence's decoding step leaves in its two output blocks, entry by entry: each of four samples' four
tokens reads the sample's own state and its own tokens, the masks leaving the other samples out.
-/
set_option maxRecDepth 16384
@[expose] public section
noncomputable section
namespace Cert.Kernel6Ideal.Core
open Cert.Hg Cert.Kernel6Ideal Cert.Kernel6Ideal.Gen Idealize.ShloMosaic Idealize.ShloMosaic.TcCoe Idealize.SL.Sem Idealize.ShloMosaic.StableHlo

/-- The accumulated decay of the block, as the kernel makes it. -/
def decay (x0 : Vec Ideal S16x128 .f32) (x4 : Vec Ideal S1x1x128 .f32) (x6 : Vec Ideal S16x16 .bf16) : FVec Ideal S16x128 .f32 :=
  k0_pay11 (k0_pay7 x0 x4) (k0_pay9 x0 x4) (k0_pay10 x0 x4) x6

theorem finish_at (g v v536 : FVec Ideal S16x128 .f32) (v555 : FVec Ideal S16x1 .f32) (gn : Vec Ideal S1x1x128 .f32) (r : Fin 16) (l : Fin 128) (O : Fin 128 → EReal)
    (hO : ∀ l, v536 (ix2 r l) + v555 (ix2 r 0) * v (ix2 15 l) = O l) :
    k0_pay1 (F := Ideal) g (k0_pay50 v v536 v555 gn) k0_pay51 (ix2 r l) = finish O (gn (ix3 0 0 l)) (g (ix2 r l)) l := by
  generalize hp : finish O (gn (ix3 0 0 l)) (g (ix2 r l)) l = p
  pointwise [k0_pay1, k0_pay50, k0_pay51]
  simp only [hO, zero_sub]
  rw [← hp]
  rfl

/-- A token's readout in terms of the block's vectors. -/
def readAt (x0 x1 x2 : Vec Ideal S16x128 .f32) (x4 : Vec Ideal S1x1x128 .f32) (x6 : Vec Ideal S16x16 .bf16) (x7 : Vec Ideal S1x4x1x128x128 .f32) (n j : Fin 4) (l : Fin 128) : EReal :=
  readout (fun j x => k0_pay6 (F := Ideal) x1 (ix2 (rowOf n j) x)) (fun j x => k0_pay5 (F := Ideal) x0 x4 (ix2 (rowOf n j) x)) (fun j x => decay x0 x4 x6 (ix2 (rowOf n j) x))
    (fun j => x2 (ix2 (rowOf n j) l)) (fun x => x7 (ix5 0 n 0 x l)) j

/-- What the body leaves in the readouts' block. -/
theorem core8 (x0 x1 x2 x3 : Vec Ideal S16x128 .f32) (x4 x5 : Vec Ideal S1x1x128 .f32) (x6 : Vec Ideal S16x16 .bf16) (x7 : Vec Ideal S1x4x1x128x128 .f32) (n j : Fin 4) (l : Fin 128) :
    out0_8 x0 x1 x2 x3 x4 x5 x6 x7 (ix2 (rowOf n j) l) = finish (readAt x0 x1 x2 x4 x6 x7 n j) (x5 (ix3 0 0 l)) (x3 (ix2 (rowOf n j) l)) l := by
  unfold_out out0_8
  frame_out
  refine finish_at _ _ _ _ _ _ _ _ fun l' => ?_
  generalize hp : readAt x0 x1 x2 x4 x6 x7 n j l' = p
  simp only [k0_pay12, k0_pay16, k0_pay17]
  unfold readAt decay at hp
  generalize k0_pay11 (F := Ideal) (k0_pay7 x0 x4) (k0_pay9 x0 x4) (k0_pay10 x0 x4) x6 = B at hp ⊢
  generalize k0_pay5 (F := Ideal) x0 x4 = K at hp ⊢
  generalize k0_pay6 (F := Ideal) x1 = Q at hp ⊢
  clear l x0 x4 x6 x1
  pointwise [k0_pay14, k0_pay15, k0_pay26, k0_pay27, k0_pay34, k0_pay35, k0_pay18, k0_pay19, k0_pay20, k0_pay21, k0_pay22, k0_pay23, k0_pay28, k0_pay29, k0_pay30, k0_pay31, k0_pay33, k0_pay36, k0_pay37, k0_pay38, k0_pay39, k0_pay40, k0_pay42, k0_pay43, k0_pay44, k0_pay45, k0_pay46, k0_pay47, k0_pay48]
  rw [← hp]
  clear hp p
  obtain ⟨n, hn⟩ := n
  obtain ⟨j, hj⟩ := j
  interval_cases n <;> interval_cases j <;>
    simp [rowOf, Scalar.select, IntOp.andi, IntOp.cmpi, readout, Fin.sum_univ_four, add_assoc]

/-- A sample's state after its four tokens in terms of the block's vectors. -/
def stateAt (x0 x2 : Vec Ideal S16x128 .f32) (x4 : Vec Ideal S1x1x128 .f32) (x6 : Vec Ideal S16x16 .bf16) (x7 : Vec Ideal S1x4x1x128x128 .f32) (n : Fin 4) (d v : Fin 128) : EReal :=
  stateAfter (fun j => k0_pay5 (F := Ideal) x0 x4 (ix2 (rowOf n j) d)) (fun j => decay x0 x4 x6 (ix2 (rowOf n j) d))
    (fun j => x2 (ix2 (rowOf n j) v)) (x7 (ix5 0 n 0 d v))

/-- What the body leaves in the states' block. -/
theorem core9 (x0 x1 x2 x3 : Vec Ideal S16x128 .f32) (x4 x5 : Vec Ideal S1x1x128 .f32) (x6 : Vec Ideal S16x16 .bf16) (x7 : Vec Ideal S1x4x1x128x128 .f32) (n : Fin 4) (d v : Fin 128) :
    out0_9 x0 x1 x2 x3 x4 x5 x6 x7 (ix4 n 0 d v) = stateAt x0 x2 x4 x6 x7 n d v := by
  generalize hp : stateAt x0 x2 x4 x6 x7 n d v = p
  unfold_out out0_9
  frame_out
  canon_tiles y e
  all_goals
    idx_vars y
    obtain rfl : y0 = 0 := Subsingleton.elim _ _
    have ed : d = y2 := Fin.ext e2
    have ev : v = y3 := Fin.ext e3
    subst ed ev
    unfold stateAt decay at hp
    generalize k0_pay11 (F := Ideal) (k0_pay7 x0 x4) (k0_pay9 x0 x4) (k0_pay10 x0 x4) x6 = B at hp ⊢
    generalize k0_pay5 (F := Ideal) x0 x4 = K at hp ⊢
    pointwise [k0_pay49, k0_pay13, k0_pay42, k0_pay43, k0_pay41, k0_pay34, k0_pay33, k0_pay35, k0_pay32, k0_pay26, k0_pay27, k0_pay25, k0_pay24, k0_pay14, k0_pay15]
    rw [← hp]
    clear hp p e1 e2 e3
    obtain ⟨n, hn⟩ := n
    obtain rfl : n = _ := e0
    simp [rowOf, Scalar.select, IntOp.andi, IntOp.cmpi, stateAfter, Fin.sum_univ_succ]
end Cert.Kernel6Ideal.Core
-- ==== Proof.HgHost.lean ====
module
public import proofs.«01_k».proof.Defs
public import proofs.«01_k».proof.Proof.Gen.Kernel6Ideal.Value
public import proofs.«01_k».proof.Proof.HgMath
public import Idealize.ShloMosaic.PureOps.Ideal
public import Idealize.ShloMosaic.Lib.Pointwise
import Idealize.ShloMosaic.Lib.Pipeline.ValueKit
import Idealize.ShloMosaic.Lib.Claim
import Idealize.ShloMosaic.Lib.StableHlo.Run
/-!
What the host code around the recurrence's decoding step hands to the call, entry by entry: the table of token pairs, the
bounds and gains by head, and the states as an array of one layer.
-/
set_option maxRecDepth 16384
@[expose] public section
noncomputable section
namespace Cert.Kernel6Ideal.Host
open Cert.Hg Cert.Kernel6Ideal Cert.Kernel6Ideal.Gen Idealize.ShloMosaic Idealize.ShloMosaic.TcCoe Idealize.SL.Sem
variable (m : (ℓ : Loc nD τ sig) → Buf (Elt Ideal) ℓ) (c : Dev nD)

set_option maxHeartbeats 1000000 in
theorem entry_lb : V m c main_v15 = shapeCast S4x1x128 (m (c.tc.loc main_arg1)) shapeCasts_S512_S4x1x128 := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_gn : V m c main_v16 = shapeCast S4x1x128 (m (c.tc.loc main_arg2)) shapeCasts_S4x128_S4x1x128 := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_state : V m c main_v17 = broadcastInDim S1x128x4x128x128 ![1, 2, 3, 4] bcast_S128x4x128x128_S1x128x4x128x128_1_2_3_4 (m (c.tc.loc main_arg3)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

/-- The sample of each of sixteen rows, down the column. -/
def samplesDown : IVec S16x1 32 :=
  select (andi (cmpi .ne (signi (broadcastInDim S16x1 ![0] bcast_S16_S16x1_0 (iotaInDim S16 32 0))) (broadcastInDim S16x1 ![] bcast_S_S16x1 (signi (constantI S_ 32 4#32))))
      (cmpi .ne (Host.remsi (broadcastInDim S16x1 ![0] bcast_S16_S16x1_0 (iotaInDim S16 32 0)) (broadcastInDim S16x1 ![] bcast_S_S16x1 (constantI S_ 32 4#32))) (broadcastInDim S16x1 ![] bcast_S_S16x1 (constantI S_ 32 0#32))))
    (subi (Host.divsi (broadcastInDim S16x1 ![0] bcast_S16_S16x1_0 (iotaInDim S16 32 0)) (broadcastInDim S16x1 ![] bcast_S_S16x1 (constantI S_ 32 4#32))) (broadcastInDim S16x1 ![] bcast_S_S16x1 (constantI S_ 32 1#32)))
    (Host.divsi (broadcastInDim S16x1 ![0] bcast_S16_S16x1_0 (iotaInDim S16 32 0)) (broadcastInDim S16x1 ![] bcast_S_S16x1 (constantI S_ 32 4#32)))

/-- The same along the row. -/
def samplesAlong : IVec S1x16 32 :=
  select (andi (cmpi .ne (signi (broadcastInDim S1x16 ![1] bcast_S16_S1x16_1 (iotaInDim S16 32 0))) (broadcastInDim S1x16 ![] bcast_S_S1x16 (signi (constantI S_ 32 4#32))))
      (cmpi .ne (Host.remsi (broadcastInDim S1x16 ![1] bcast_S16_S1x16_1 (iotaInDim S16 32 0)) (broadcastInDim S1x16 ![] bcast_S_S1x16 (constantI S_ 32 4#32))) (broadcastInDim S1x16 ![] bcast_S_S1x16 (constantI S_ 32 0#32))))
    (subi (Host.divsi (broadcastInDim S1x16 ![1] bcast_S16_S1x16_1 (iotaInDim S16 32 0)) (broadcastInDim S1x16 ![] bcast_S_S1x16 (constantI S_ 32 4#32))) (broadcastInDim S1x16 ![] bcast_S_S1x16 (constantI S_ 32 1#32)))
    (Host.divsi (broadcastInDim S1x16 ![1] bcast_S16_S1x16_1 (iotaInDim S16 32 0)) (broadcastInDim S1x16 ![] bcast_S_S1x16 (constantI S_ 32 4#32)))

/-- The table of token pairs: of one sample, the later one first. -/
def pairs : FVec Ideal S16x16 .bf16 :=
  uitofp .bf16 (andi (cmpi .eq (broadcastInDim S16x16 ![0, 1] bcast_S16x1_S16x16_0_1 samplesDown) (broadcastInDim S16x16 ![0, 1] bcast_S1x16_S16x16_0_1 samplesAlong))
    (cmpi .sge (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))

set_option maxHeartbeats 1000000 in
theorem entry_pairs : V m c main_v14 = pairs := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

theorem flag {e : BitVec 1} {P : Prop} [Decidable P] (h : e = if P then 1#1 else 0#1) : (FloatOps.uitofp (F := Ideal) .bf16 e : EReal) = if P then 1 else 0 := by
  subst h
  by_cases hP : P
  · rw [if_pos hP, if_pos hP]
    show ((1#1 : BitVec 1).toNat : EReal) = 1
    norm_num
  · rw [if_neg hP, if_neg hP]
    show ((0#1 : BitVec 1).toNat : EReal) = 0
    norm_num

theorem pairs_at (r x : Fin 16) : pairs (ix2 r x) = if x.val / 4 = r.val / 4 ∧ x ≤ r then 1 else 0 := by
  pointwise [pairs, samplesDown, samplesAlong]
  refine flag ?_
  revert r x
  decide +kernel
end Cert.Kernel6Ideal.Host
-- ==== Proof.HgValue.lean ====
module
public import proofs.«01_k».proof.Defs
public import proofs.«01_k».proof.Proof.Gen.Kernel6Ideal.Value
public import proofs.«01_k».proof.Proof.HgMath
public import proofs.«01_k».proof.Proof.HgCore
public import proofs.«01_k».proof.Proof.HgHost
public import Idealize.ShloMosaic.PureOps.Ideal
public import Idealize.ShloMosaic.Lib.Pointwise
import Idealize.ShloMosaic.Lib.Pipeline.ValueKit
import Idealize.ShloMosaic.Lib.Claim
/-!
The blocks of the recurrence's decoding step read in its arguments, and with them every entry of its two results.
-/
set_option maxRecDepth 16384
@[expose] public section
noncomputable section
namespace Cert.Kernel6Ideal.Step
open Cert.Hg Cert.Kernel6Ideal Cert.Kernel6Ideal.Gen Cert.Kernel6Ideal.Core Cert.Kernel6Ideal.Host Idealize.ShloMosaic Idealize.ShloMosaic.TcCoe Idealize.SL.Sem

/-- The accumulated decay of a block, entry by entry: the parts that the kernel splits a logarithm into sum to it. -/
theorem decay_at (x0 : Vec Ideal S16x128 .f32) (x4 : Vec Ideal S1x1x128 .f32) (x6 : Vec Ideal S16x16 .bf16)
    (h6 : ∀ r x : Fin 16, x6 (ix2 r x) = if x.val / 4 = r.val / 4 ∧ x ≤ r then (1 : EReal) else 0) (d : Fin 128)
    (hf : ∀ x : Fin 16, ∃ f : ℝ, f ≤ 0 ∧ logForget (x4 (ix3 0 0 d)) (x0 (ix2 x d)) = (f : EReal)) (n j : Fin 4) :
    decay x0 x4 x6 (ix2 (rowOf n j) d) = upTo (fun i => logForget (x4 (ix3 0 0 d)) (x0 (ix2 (rowOf n i) d))) j := by
  rw [← sum_pairs (fun x => logForget (x4 (ix3 0 0 d)) (x0 (ix2 x d)))]
  generalize hp : (∑ x : Fin 16, (if x.val / 4 = (rowOf n j).val / 4 ∧ x ≤ rowOf n j then (1 : EReal) else 0) * logForget (x4 (ix3 0 0 d)) (x0 (ix2 x d))) = p
  pointwise [decay, k0_pay11, k0_pay10, k0_pay9, k0_pay8, k0_pay7, k0_pay4, k0_pay3, k0_pay2, h6]
  have e1 : 128 + d.val - 128 = d.val := by omega
  have e2 : 256 + d.val - 128 - 128 = d.val := by omega
  have n1 : ¬256 + d.val < 128 := by omega
  have n2 : ¬256 + d.val - 128 < 128 := by omega
  simp only [n1, n2, e1, e2, Fin.eta, zero_sub, dite_false]
  rw [← hp]
  choose f _ hf using hf
  have hz : ∀ x : Fin 16, Ideal.log (x4 (ix3 0 0 d) + (1 - x4 (ix3 0 0 d)) * Ideal.div 1 (1 + Ideal.exp (-x0 (ix2 x d)))) = (f x : EReal) := hf
  have h0 : ∀ r : ℝ, (r : EReal) - (r : EReal) = 0 := fun r => by rw [← EReal.coe_sub, sub_self, EReal.coe_zero]
  simp only [hz, hf, h0, sub_zero, mul_zero, Finset.sum_const_zero, add_zero]

theorem query_at (x1 : Vec Ideal S16x128 .f32) (r : Fin 16) (d : Fin 128) : k0_pay6 (F := Ideal) x1 (ix2 r d) = x1 (ix2 r d) * gate (x1 (ix2 r d)) := by
  generalize hp : x1 (ix2 r d) * gate (x1 (ix2 r d)) = p
  pointwise [k0_pay6]
  rw [← hp, zero_sub]
  rfl

theorem input_at (x0 : Vec Ideal S16x128 .f32) (x4 : Vec Ideal S1x1x128 .f32) (r : Fin 16) (d : Fin 128) :
    k0_pay5 (F := Ideal) x0 x4 (ix2 r d) = inputGate (x4 (ix3 0 0 d)) (x0 (ix2 r d)) := by
  generalize hp : inputGate (x4 (ix3 0 0 d)) (x0 (ix2 r d)) = p
  pointwise [k0_pay5, k0_pay3, k0_pay2]
  rw [← hp, zero_sub]
  rfl

variable (m : (ℓ : Loc nD τ sig) → Buf (Elt Ideal) ℓ) (c : Dev nD)

/-- The packed projection. -/
def proj : FVec Ideal S16896x6656 .f32 := m (c.tc.loc main_arg0)
/-- The lower bounds. -/
def bounds : FVec Ideal S512 .f32 := m (c.tc.loc main_arg1)
/-- The gains. -/
def gains : FVec Ideal S4x128 .f32 := m (c.tc.loc main_arg2)
/-- The states. -/
def before : FVec Ideal S128x4x128x128 .f32 := m (c.tc.loc main_arg3)

/-- The windows' blocks at every point. -/
theorem idx : ∀ t : Fin cfg0.N, win0_0.index t = ![1024 + t.val / 4, 4 + t.val % 4] ∧ win0_1.index t = ![1024 + t.val / 4, 8 + t.val % 4]
    ∧ win0_2.index t = ![1024 + t.val / 4, 12 + t.val % 4] ∧ win0_3.index t = ![1024 + t.val / 4, 16 + t.val % 4] ∧ win0_4.index t = ![t.val % 4, 0, 0] ∧ win0_5.index t = ![t.val % 4, 0, 0]
    ∧ win0_6.index t = ![0, 0] ∧ win0_7.index t = ![0, t.val / 4, t.val % 4, 0, 0] ∧ win0_8.index t = ![t.val / 4, t.val % 4] ∧ win0_9.index t = ![t.val / 4, t.val % 4, 0, 0] ∧ t.val < 128 :=
  (by decide +kernel : ∀ t : Fin grid0.N, _)

/-- The sample that a step's `n`-th is. -/
def sample (t : Fin cfg0.N) (n : Fin 4) : Fin 128 := ⟨4 * (t.val / 4) + n, by have : t.val < 128 := t.isLt; omega⟩

/-- A step's head. -/
def head (t : Fin cfg0.N) : Fin 4 := ⟨t.val % 4, by omega⟩

theorem block0 (t : Fin cfg0.N) (n j : Fin 4) (d : Fin 128) : (iblk m c 0 t : Vec Ideal S16x128 .f32) (ix2 (rowOf n j) d) = proj m c (ix2 (row (sample t n) j) (col 512 (by norm_num) (head t) d)) := by
  unfold proj row col sample head rowOf
  blk_ext [iblk, V, idx t]

theorem block1 (t : Fin cfg0.N) (n j : Fin 4) (d : Fin 128) : (iblk m c 1 t : Vec Ideal S16x128 .f32) (ix2 (rowOf n j) d) = proj m c (ix2 (row (sample t n) j) (col 1024 (by norm_num) (head t) d)) := by
  unfold proj row col sample head rowOf
  blk_ext [iblk, V, idx t]

theorem block2 (t : Fin cfg0.N) (n j : Fin 4) (d : Fin 128) : (iblk m c 2 t : Vec Ideal S16x128 .f32) (ix2 (rowOf n j) d) = proj m c (ix2 (row (sample t n) j) (col 1536 (by norm_num) (head t) d)) := by
  unfold proj row col sample head rowOf
  blk_ext [iblk, V, idx t]

theorem block3 (t : Fin cfg0.N) (n j : Fin 4) (d : Fin 128) : (iblk m c 3 t : Vec Ideal S16x128 .f32) (ix2 (rowOf n j) d) = proj m c (ix2 (row (sample t n) j) (col 2048 (by norm_num) (head t) d)) := by
  unfold proj row col sample head rowOf
  blk_ext [iblk, V, idx t]

theorem bounds_at (h : Fin 4) (d : Fin 128) : (shapeCast S4x1x128 (bounds m c) shapeCasts_S512_S4x1x128) (ix3 h 0 d) = bounds m c (ix1 (lane h d)) := by
  unfold lane
  pointwise

theorem gains_at (h : Fin 4) (d : Fin 128) : (shapeCast S4x1x128 (gains m c) shapeCasts_S4x128_S4x1x128) (ix3 h 0 d) = gains m c (ix2 h d) := by
  pointwise

theorem before_at (b : Fin 128) (h : Fin 4) (d v : Fin 128) :
    (broadcastInDim S1x128x4x128x128 ![1, 2, 3, 4] bcast_S128x4x128x128_S1x128x4x128x128_1_2_3_4 (before m c)) (ix5 0 b h d v) = before m c (ix4 b h d v) := by
  pointwise

theorem block4 (t : Fin cfg0.N) (d : Fin 128) : (iblk m c 4 t : Vec Ideal S1x1x128 .f32) (ix3 0 0 d) = bounds m c (ix1 (lane (head t) d)) := by
  refine Eq.trans ?_ (bounds_at m c (head t) d)
  have he := entry_lb m c
  unfold bounds head
  blk_simp [iblk, he]
  blk_ext [idx t]

theorem block5 (t : Fin cfg0.N) (d : Fin 128) : (iblk m c 5 t : Vec Ideal S1x1x128 .f32) (ix3 0 0 d) = gains m c (ix2 (head t) d) := by
  refine Eq.trans ?_ (gains_at m c (head t) d)
  have he := entry_gn m c
  unfold gains head
  blk_simp [iblk, he]
  blk_ext [idx t]

theorem block6 (t : Fin cfg0.N) (r x : Fin 16) : (iblk m c 6 t : Vec Ideal S16x16 .bf16) (ix2 r x) = if x.val / 4 = r.val / 4 ∧ x ≤ r then (1 : EReal) else 0 := by
  refine Eq.trans ?_ (pairs_at r x)
  have he := entry_pairs m c
  generalize pairs = T at he ⊢
  blk_simp [iblk, he]
  blk_ext [idx t]

theorem block7 (t : Fin cfg0.N) (n : Fin 4) (d v : Fin 128) : (iblk m c 7 t : Vec Ideal S1x4x1x128x128 .f32) (ix5 0 n 0 d v) = before m c (ix4 (sample t n) (head t) d v) := by
  refine Eq.trans ?_ (before_at m c (sample t n) (head t) d v)
  have he := entry_state m c
  unfold before head sample
  blk_simp [iblk, he]
  blk_ext [idx t]

/-- The decay that a step accumulates, in the arguments. -/
theorem decay_of (g : Good (proj m c) (bounds m c)) (t : Fin cfg0.N) (n j : Fin 4) (d : Fin 128) :
    decay (iblk m c 0 t) (iblk m c 4 t) (iblk m c 6 t) (ix2 (rowOf n j) d) = upTo (forgets (proj m c) (bounds m c) (sample t n) (head t) d) j := by
  refine (decay_at _ _ _ (block6 m c t) d (fun x => ?_) n j).trans ?_
  · have hx : x = rowOf ⟨x.val / 4, by omega⟩ ⟨x.val % 4, by omega⟩ := Fin.ext (by unfold rowOf; simp only; omega)
    rw [hx, block0, block4]
    exact g.forgets _ _ _ _
  · simp only [block0, block4]
    rfl

theorem read_of (g : Good (proj m c) (bounds m c)) (t : Fin cfg0.N) (n j : Fin 4) (l : Fin 128) :
    readAt (iblk m c 0 t) (iblk m c 1 t) (iblk m c 2 t) (iblk m c 4 t) (iblk m c 6 t) (iblk m c 7 t) n j l
      = readout (query (proj m c) (sample t n) (head t)) (inputs (proj m c) (bounds m c) (sample t n) (head t))
        (fun t' d => upTo (forgets (proj m c) (bounds m c) (sample t n) (head t) d) t') (value (proj m c) (sample t n) (head t) l) (fun d => before m c (ix4 (sample t n) (head t) d l)) j := by
  unfold readAt
  simp only [decay_of m c g, query_at, input_at, block0, block1, block2, block4, block7]
  rfl

theorem result8 (g : Good (proj m c) (bounds m c)) (t : Fin cfg0.N) (n j : Fin 4) (l : Fin 128) :
    out0_8 (iblk m c 0 t) (iblk m c 1 t) (iblk m c 2 t) (iblk m c 3 t) (iblk m c 4 t) (iblk m c 5 t) (iblk m c 6 t) (iblk m c 7 t) (ix2 (rowOf n j) l)
      = mixed (proj m c) (bounds m c) (gains m c) (before m c) (sample t n) (head t) j l := by
  rw [core8, block3, block5]
  unfold mixed
  refine congrArg (fun o => finish o _ _ l) (funext fun l' => read_of m c g t n j l')

theorem result9 (g : Good (proj m c) (bounds m c)) (t : Fin cfg0.N) (n : Fin 4) (d v : Fin 128) :
    out0_9 (iblk m c 0 t) (iblk m c 1 t) (iblk m c 2 t) (iblk m c 3 t) (iblk m c 4 t) (iblk m c 5 t) (iblk m c 6 t) (iblk m c 7 t) (ix4 n 0 d v)
      = states (proj m c) (bounds m c) (before m c) (sample t n) (head t) d v := by
  rw [core9]
  unfold stateAt
  simp only [decay_of m c g, input_at, block0, block2, block4, block7]
  rfl

/-- The mixer's output at a row and a column of its array. -/
def mixedAt (X : FVec Ideal S16896x6656 .f32) (lb : FVec Ideal S512 .f32) (gn : FVec Ideal S4x128 .f32) (S : FVec Ideal S128x4x128x128 .f32) (r l : Fin 512) : EReal :=
  mixed X lb gn S ⟨r.val / 4, by omega⟩ ⟨l.val / 128, by omega⟩ ⟨r.val % 4, by omega⟩ ⟨l.val % 128, by omega⟩

/-- Every entry of the mixer's output. -/
theorem final8 (g : Good (proj m c) (bounds m c)) : (dats m 0 c).arrAt 8 (cfgs 0).N = fun y => mixedAt (proj m c) (bounds m c) (gains m c) (before m c) (y 0) (y 1) := by
  refine (dats m 0 c).arrAt_eq_of_covers 8 _ (by decide +kernel) fun t _ y => ?_
  blk_simp
  rw [after0_8]
  idx_vars y
  have hy : y0 = rowOf ⟨y0.val / 4, by omega⟩ ⟨y0.val % 4, by omega⟩ := Fin.ext (by unfold rowOf; simp only; omega)
  have := result8 m c g t ⟨y0.val / 4, by omega⟩ ⟨y0.val % 4, by omega⟩ y1
  rw [← hy] at this
  refine this.trans ?_
  unfold mixedAt
  have ht : t.val < 128 := t.isLt
  congr 1
  · exact Fin.ext (by unfold sample; blk_simp [idx t]; dsimp only; omega)
  · exact Fin.ext (by unfold head; blk_simp [idx t]; dsimp only; omega)
  · exact Fin.ext (by blk_simp [idx t]; dsimp only; omega)
  · exact Fin.ext (by blk_simp [idx t]; dsimp only; omega)

/-- Every entry of the states. -/
theorem final9 (g : Good (proj m c) (bounds m c)) : (dats m 0 c).arrAt 9 (cfgs 0).N = fun y => states (proj m c) (bounds m c) (before m c) (y 0) (y 1) (y 2) (y 3) := by
  refine (dats m 0 c).arrAt_eq_of_covers 9 _ (by decide +kernel) fun t _ y => ?_
  blk_simp
  rw [after0_9]
  idx_vars y
  obtain rfl : y1 = 0 := Subsingleton.elim _ _
  refine (result9 m c g t y0 y2 y3).trans ?_
  congr 1
  · exact Fin.ext (by unfold sample; blk_simp [idx t]; dsimp only; omega)
  · exact Fin.ext (by unfold head; blk_simp [idx t]; dsimp only; omega)
  · exact Fin.ext (by blk_simp [idx t])
  · exact Fin.ext (by blk_simp [idx t])
end Cert.Kernel6Ideal.Step
end
-- ==== Proof.HgRef.lean ====
module
public import proofs.«01_k».proof.Defs
public import proofs.«01_k».proof.Proof.Gen.Reference6Ideal
public import proofs.«01_k».proof.Proof.Gen.Reference6Ideal.Run
public import proofs.«01_k».proof.Proof.HgMath
public import Idealize.ShloMosaic.PureOps.Ideal
public import Idealize.ShloMosaic.Lib.Pointwise
import Idealize.ShloMosaic.Lib.Pipeline.ValueKit
import Idealize.ShloMosaic.Lib.Claim
/-!
The reference of the recurrence's decoding step, entry by entry: its logarithms of the forget gate, their sums up to each
token, the scores between a sample's tokens, the mixer's output and the states.
-/
set_option maxRecDepth 16384
@[expose] public section
noncomputable section
namespace Cert.Reference6Ideal.Step
open Cert.Hg Cert.Reference6Ideal Cert.Reference6Ideal.Gen Idealize.ShloMosaic Idealize.ShloMosaic.TcCoe Idealize.SL.Sem Idealize.ShloMosaic.StableHlo

/-- The logarithms of the forget gate. -/
def logs (X : FVec Ideal S16896x6656 .f32) (lb : FVec Ideal S512 .f32) : FVec Ideal S128x4x4x128 .f32 :=
  Host.log (addf (broadcastInDim S128x4x4x128 ![0, 1, 2, 3] bcast_S1x1x4x128_S128x4x4x128_0_1_2_3 (broadcastInDim S1x1x4x128 ![2, 3] bcast_S4x128_S1x1x4x128_2_3 (shapeCast _ lb shapeCasts_S512_S4x128))) (mulf (broadcastInDim S128x4x4x128 ![0, 1, 2, 3] bcast_S1x1x4x128_S128x4x4x128_0_1_2_3 (broadcastInDim S1x1x4x128 ![2, 3] bcast_S4x128_S1x1x4x128_2_3 (subf (broadcastInDim S4x128 ![] bcast_S_S4x128 (constant S_ .f32 0x3F800000#32)) (shapeCast _ lb shapeCasts_S512_S4x128)))) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (shapeCast _ (extractStridedSlice S512x512 ![0, 512] (extractStridedSlice S512x6656 ![16384, 0] X slices_S16896x6656_S512x6656_16384_0) slices_S512x6656_S512x512_0_512) shapeCasts_S512x512_S128x4x4x128)))))))

/-- Their sums up to each token: sums over windows that reach before the start. -/
def decays (X : FVec Ideal S16896x6656 .f32) (lb : FVec Ideal S512 .f32) : FVec Ideal S128x4x4x128 .f32 :=
  Host.reduceWindowAdd ![1, 1, 4, 1] ![1, 1, 1, 1] ![0, 0, 3, 0] ![0, 0, 0, 0] (transpose S128x4x4x128 [0, 2, 1, 3] (logs X lb) transposes_S128x4x4x128_S128x4x4x128_0_2_1_3) (broadcastInDim S_ ![] bcast_S_S_ (constant S_ .f32 0x00000000#32)) reduceWindows_S128x4x4x128_S128x4x4x128_w1s1p0_0_w1s1p0_0_w4s1p3_0_w1s1p0_0 h_S_

/-- The input gates. -/
def keys (X : FVec Ideal S16896x6656 .f32) (lb : FVec Ideal S512 .f32) : FVec Ideal S128x4x4x128 .f32 :=
  transpose S128x4x4x128 [0, 2, 1, 3] (Host.negf (Host.expm1 (logs X lb))) transposes_S128x4x4x128_S128x4x4x128_0_2_1_3

/-- The values. -/
def values (X : FVec Ideal S16896x6656 .f32) : FVec Ideal S128x4x4x128 .f32 :=
  transpose S128x4x4x128 [0, 2, 1, 3] (shapeCast _ (extractStridedSlice S512x512 ![0, 1536] (extractStridedSlice S512x6656 ![16384, 0] X slices_S16896x6656_S512x6656_16384_0) slices_S512x6656_S512x512_0_1536) shapeCasts_S512x512_S128x4x4x128) transposes_S128x4x4x128_S128x4x4x128_0_2_1_3

/-- The queries. -/
def queries (X : FVec Ideal S16896x6656 .f32) : FVec Ideal S128x4x4x128 .f32 :=
  transpose S128x4x4x128 [0, 2, 1, 3] (mulf (shapeCast _ (extractStridedSlice S512x512 ![0, 1024] (extractStridedSlice S512x6656 ![16384, 0] X slices_S16896x6656_S512x6656_16384_0) slices_S512x6656_S512x512_0_1024) shapeCasts_S512x512_S128x4x4x128) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (shapeCast _ (extractStridedSlice S512x512 ![0, 1024] (extractStridedSlice S512x6656 ![16384, 0] X slices_S16896x6656_S512x6656_16384_0) slices_S512x6656_S512x512_0_1024) shapeCasts_S512x512_S128x4x4x128)))))) transposes_S128x4x4x128_S128x4x4x128_0_2_1_3

/-- The scores between a sample's tokens. -/
def scores (X : FVec Ideal S16896x6656 .f32) (lb : FVec Ideal S512 .f32) : FVec Ideal S128x4x4x4 .f32 :=
  Host.dotGeneral dot_S128x4x4x128_S128x4x4x4x128_S128x4x4x4_3_4_n_3_012_012 none (queries X) (mulf (select (broadcastInDim S128x4x4x4x128 ![2, 3, 4] bcast_S4x4x1_S128x4x4x4x128_2_3_4 (broadcastInDim S4x4x1 ![0, 1] bcast_S4x4_S4x4x1_0_1 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))))) (Host.exp (minimumf (subf (broadcastInDim S128x4x4x4x128 ![0, 1, 2, 3, 4] bcast_S128x4x4x1x128_S128x4x4x4x128_0_1_2_3_4 (broadcastInDim S128x4x4x1x128 ![0, 1, 2, 4] bcast_S128x4x4x128_S128x4x4x1x128_0_1_2_4 (decays X lb))) (broadcastInDim S128x4x4x4x128 ![0, 1, 2, 3, 4] bcast_S128x4x1x4x128_S128x4x4x4x128_0_1_2_3_4 (broadcastInDim S128x4x1x4x128 ![0, 1, 3, 4] bcast_S128x4x4x128_S128x4x1x4x128_0_1_3_4 (decays X lb)))) (broadcastInDim S128x4x4x4x128 ![] bcast_S_S128x4x4x4x128 (constant S_ .f32 0x00000000#32)))) (broadcastInDim S128x4x4x4x128 ![] bcast_S_S128x4x4x4x128 (id (constant S_ .f32 0x00000000#32)))) (broadcastInDim S128x4x4x4x128 ![0, 1, 2, 3, 4] bcast_S128x4x1x4x128_S128x4x4x4x128_0_1_2_3_4 (broadcastInDim S128x4x1x4x128 ![0, 1, 3, 4] bcast_S128x4x4x128_S128x4x1x4x128_0_1_3_4 (keys X lb))))

/-- What the tokens read. -/
def reads (X : FVec Ideal S16896x6656 .f32) (lb : FVec Ideal S512 .f32) (S : FVec Ideal S128x4x128x128 .f32) : FVec Ideal S128x4x4x128 .f32 :=
  transpose S128x4x4x128 [0, 2, 1, 3] (addf (Host.dotGeneral dot_S128x4x4x4_S128x4x4x128_S128x4x4x128_3_2_2_3_01_01 none (scores X lb) (values X)) (Host.dotGeneral dot_S128x4x4x128_S128x4x128x128_S128x4x4x128_3_2_2_3_01_01 none (mulf (queries X) (Host.exp (decays X lb))) S)) transposes_S128x4x4x128_S128x4x4x128_0_2_1_3

/-- The mixer's output. -/
def output (X : FVec Ideal S16896x6656 .f32) (lb : FVec Ideal S512 .f32) (gn : FVec Ideal S4x128 .f32) (S : FVec Ideal S128x4x128x128 .f32) : FVec Ideal S512x512 .bf16 :=
  truncf .bf16 (shapeCast _ (mulf (mulf (mulf (reads X lb S) (broadcastInDim S128x4x4x128 ![0, 1, 2, 3] bcast_S128x4x4x1_S128x4x4x128_0_1_2_3 (Host.rsqrt (addf (Host.divf (broadcastInDim S128x4x4x1 ![0, 1, 2] bcast_S128x4x4_S128x4x4x1_0_1_2 (Host.reduceAdd (mulf (reads X lb S) (reads X lb S)) (constant S_ .f32 0x00000000#32) reducesTo_S128x4x4x128_S128x4x4_d3 h_S_)) (broadcastInDim S128x4x4x1 ![] bcast_S_S128x4x4x1 (constant S_ .f32 0x43000000#32))) (broadcastInDim S128x4x4x1 ![] bcast_S_S128x4x4x1 (constant S_ .f32 0x358637BD#32)))))) (broadcastInDim S128x4x4x128 ![0, 1, 2, 3] bcast_S1x1x4x128_S128x4x4x128_0_1_2_3 (broadcastInDim S1x1x4x128 ![2, 3] bcast_S4x128_S1x1x4x128_2_3 gn))) (mulf (shapeCast _ (extractStridedSlice S512x512 ![0, 2048] (extractStridedSlice S512x6656 ![16384, 0] X slices_S16896x6656_S512x6656_16384_0) slices_S512x6656_S512x512_0_2048) shapeCasts_S512x512_S128x4x4x128) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (shapeCast _ (extractStridedSlice S512x512 ![0, 2048] (extractStridedSlice S512x6656 ![16384, 0] X slices_S16896x6656_S512x6656_16384_0) slices_S512x6656_S512x512_0_2048) shapeCasts_S512x512_S128x4x4x128))))))) shapeCasts_S128x4x4x128_S512x512) bitsLt_bf16_f32

/-- The states after the four tokens. -/
def after (X : FVec Ideal S16896x6656 .f32) (lb : FVec Ideal S512 .f32) (S : FVec Ideal S128x4x128x128 .f32) : FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (shapeCast _ (extractStridedSlice S128x4x1x128 ![0, 0, 3, 0] (decays X lb) slices_S128x4x4x128_S128x4x1x128_0_0_3_0) shapeCasts_S128x4x1x128_S128x4x128)))) S) (Host.dotGeneral dot_S128x4x4x128_S128x4x4x128_S128x4x128x128_2_2_3_3_01_01 none (mulf (keys X lb) (Host.exp (subf (broadcastInDim S128x4x4x128 ![0, 1, 2, 3] bcast_S128x4x1x128_S128x4x4x128_0_1_2_3 (extractStridedSlice S128x4x1x128 ![0, 0, 3, 0] (decays X lb) slices_S128x4x4x128_S128x4x1x128_0_0_3_0)) (decays X lb)))) (values X))

theorem output_eq (m : (ℓ : Loc nD τ sig) → Buf (Elt Ideal) ℓ) (c : Dev nD) : Value.res_out0 (F := Ideal) m c
    = output (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v83
  rfl

theorem after_eq (m : (ℓ : Loc nD τ sig) → Buf (Elt Ideal) ℓ) (c : Dev nD) : Value.res_out1 (F := Ideal) m c
    = after (m ((c.tc : Thread nD τ).loc main_arg0)) (m ((c.tc : Thread nD τ).loc main_arg1)) (m ((c.tc : Thread nD τ).loc main_arg3)) := by
  unfold Value.res_out1 Value.res_main_v63
  rfl

variable (X : FVec Ideal S16896x6656 .f32) (lb : FVec Ideal S512 .f32) (S : FVec Ideal S128x4x128x128 .f32) (gn : FVec Ideal S4x128 .f32) (b : Fin 128) (h t s : Fin 4) (d v : Fin 128)

theorem logs_at : logs X lb (ix4 b t h d) = forgets X lb b h d t := by
  generalize hp : forgets X lb b h d t = p
  pointwise [logs]
  rw [← hp]
  rfl

theorem values_at : values X (ix4 b h t v) = value X b h v t := by
  generalize hp : value X b h v t = p
  pointwise [values]
  rw [← hp]
  rfl

theorem queries_at : queries X (ix4 b h t d) = query X b h t d := by
  generalize hp : query X b h t d = p
  pointwise [queries]
  rw [← hp]
  rfl

theorem keys_at (g : Good X lb) : keys X lb (ix4 b h t d) = inputs X lb b h t d := by
  rw [← g.inputs b h t d]
  pointwise [keys, logs_at]

/-- A window's sum: the tokens up to its own. -/
theorem window_at (y : FVec Ideal S128x4x4x128 .f32) : Host.reduceWindowAdd ![1, 1, 4, 1] ![1, 1, 1, 1] ![0, 0, 3, 0] ![0, 0, 0, 0] y (broadcastInDim S_ ![] bcast_S_S_ (constant S_ .f32 0x00000000#32)) reduceWindows_S128x4x4x128_S128x4x4x128_w1s1p0_0_w1s1p0_0_w4s1p3_0_w1s1p0_0 h_S_ (ix4 b h t d)
    = upTo (fun i => y (ix4 b h i d)) t := by
  have hf : ∀ (N : ℕ) (l : List (Fin N)) (φ : Fin N → EReal) (r : EReal), l.foldl (fun r n => r + φ n) r = r + (l.map φ).sum := by
    intro N l φ
    induction l with
    | nil => intro r; simp
    | cons a l ih => intro r; rw [List.foldl_cons, ih, List.map_cons, List.sum_cons, add_assoc]
  unfold Host.reduceWindowAdd
  rw [Ideal.hostReduceWindowAdd_def]
  unfold Ideal.hostReduceWindowAdd Host.reduceWindow
  dsimp only
  rw [hf, ← Fin.sum_univ_def]
  rw [show (broadcastInDim S_ ![] bcast_S_S_ (constant (F := Ideal) S_ FTy.f32 (0#32)) (Shape.Idx.first h_S_) : EReal) = 0 from Ideal.ofBits_zero_f32, zero_add]
  refine (Fintype.sum_equiv ((⟨4, ![1, 1, 4, 1]⟩ : Shape).rowMajor.symm) _
    (fun w : (⟨4, ![1, 1, 4, 1]⟩ : Shape).Idx => if hw : 3 ≤ t.val + (w 2).val ∧ t.val + (w 2).val - 3 < 4 then y (ix4 b h ⟨t.val + (w 2).val - 3, hw.2⟩ d) else 0) fun i => ?_).trans ?_
  · let w := (⟨4, ![1, 1, 4, 1]⟩ : Shape).rowMajor.symm i
    have hb := b.isLt; have hh := h.isLt; have ht := t.isLt; have hd := d.isLt
    have h0 : (w 0).val < 1 := (w 0).isLt
    have h1 : (w 1).val < 1 := (w 1).isLt
    have h3 : (w 3).val < 1 := (w 3).isLt
    by_cases hw : 3 ≤ t.val + (w 2).val ∧ t.val + (w 2).val - 3 < 4
    · refine (dif_pos (fun a => ?_)).trans (Eq.trans ?_ (dif_pos hw).symm)
      rotate_left
      · refine congrArg y (funext fun a => Fin.ext ?_)
        match a with
        | ⟨0, _⟩ => show b.val * 1 + (w 0).val - 0 = b.val; omega
        | ⟨1, _⟩ => show h.val * 1 + (w 1).val - 0 = h.val; omega
        | ⟨2, _⟩ => show t.val * 1 + (w 2).val - 3 = t.val + (w 2).val - 3; omega
        | ⟨3, _⟩ => show d.val * 1 + (w 3).val - 0 = d.val; omega
      · match a with
        | ⟨0, _⟩ => show 0 ≤ b.val * 1 + (w 0).val ∧ b.val * 1 + (w 0).val - 0 < 128; omega
        | ⟨1, _⟩ => show 0 ≤ h.val * 1 + (w 1).val ∧ h.val * 1 + (w 1).val - 0 < 4; omega
        | ⟨2, _⟩ => show 3 ≤ t.val * 1 + (w 2).val ∧ t.val * 1 + (w 2).val - 3 < 4; omega
        | ⟨3, _⟩ => show 0 ≤ d.val * 1 + (w 3).val ∧ d.val * 1 + (w 3).val - 0 < 128; omega
    · refine (dif_neg (fun hin => hw ?_)).trans (dif_neg (t := fun hw => y (ix4 b h ⟨t.val + (w 2).val - 3, hw.2⟩ d)) (e := fun _ => (0 : EReal)) hw).symm
      have : 3 ≤ t.val * 1 + (w 2).val ∧ t.val * 1 + (w 2).val - 3 < 4 := hin 2
      omega
  · rw [sum_idx4]
    simp only [Fin.sum_univ_one, ix4_2]
    obtain ⟨t, ht⟩ := t
    unfold upTo
    simp only [Fin.sum_univ_four]
    interval_cases t <;> simp [add_assoc]

theorem decays_at : decays X lb (ix4 b h t d) = upTo (forgets X lb b h d) t := by
  unfold decays
  rw [window_at]
  refine congrArg (upTo · t) (funext fun i => ?_)
  pointwise [logs_at]

/-- The bit that keeps a token's own past. -/
theorem past (s t : Fin 4) : Scalar.select (IntOp.cmpi .sge (IntOp.addi (BitVec.ofNat 32 t.val) 0#32) (BitVec.ofNat 32 s.val)) 1#1 0#1 = if s ≤ t then 1#1 else 0#1 := by
  revert s t
  decide

theorem scores_at (g : Good X lb) : scores X lb (ix4 b h t s)
    = if s ≤ t then ∑ d, query X b h t d * Ideal.exp (min (upTo (forgets X lb b h d) t - upTo (forgets X lb b h d) s) 0) * inputs X lb b h s d else 0 := by
  pointwise [scores, decays_at, queries_at, keys_at _ _ _ _ _ _ g]
  rw [past]
  by_cases hst : s ≤ t
  · rw [if_pos hst, if_pos hst]
    refine Finset.sum_congr rfl fun x _ => ?_
    exact (mul_assoc _ _ _).symm
  · rw [if_neg hst, if_neg hst]
    refine Finset.sum_eq_zero fun x _ => ?_
    refine (congrArg (query X b h t x * ·) ?_).trans (mul_zero _)
    exact (congrArg (· * inputs X lb b h s x) Ideal.ofBits_zero_f32).trans (zero_mul _)

theorem reads_at (g : Good X lb) : reads X lb S (ix4 b t h v)
    = readout (query X b h) (inputs X lb b h) (fun t d => upTo (forgets X lb b h d) t) (value X b h v) (fun d => S (ix4 b h d v)) t := by
  pointwise [reads, scores_at _ _ _ _ _ _ g, decays_at, queries_at, values_at]
  unfold readout
  rw [add_comm]
  simp only [ite_mul, zero_mul]

theorem output_at (g : Good X lb) : output X lb gn S (ix2 ⟨b * 4 + t, by omega⟩ ⟨h * 128 + v, by omega⟩) = mixed X lb gn S b h t v := by
  generalize hp : mixed X lb gn S b h t v = p
  pointwise [output, reads_at _ _ _ _ _ _ _ g]
  rw [← hp]
  rfl

theorem after_at (g : Good X lb) : after X lb S (ix4 b h d v) = states X lb S b h d v := by
  pointwise [after, decays_at, keys_at _ _ _ _ _ _ g, values_at]
  exact stateAfter_eq (g.forgets b h d) _ _ _
end Cert.Reference6Ideal.Step
end
-- ==== Proof.SbPre.lean ====
module
public import proofs.«01_k».proof.Proof.Gen.Pre_pre
public import proofs.«01_k».proof.Proof.SbMath
import Idealize.ShloMosaic.Lib.ReduceAll
import Idealize.ShloMosaic.Lib.Pointwise
/-!
The precondition read: the queries and the keys of the prompt rows are finite.
-/
set_option maxRecDepth 16384
@[expose] public section
noncomputable section
namespace Cert.Pre_pre.Sb
open Cert.Pre_pre Idealize.ShloMosaic
open Cert.Sb

instance : Subsingleton S_.Idx := ⟨fun a b => funext fun k => k.elim0⟩

/-- A number whose absolute value is under infinity is its real. -/
theorem coe_of_abs_lt {y : EReal} (h : Ideal.cmp .olt (max y (-y)) (Ideal.ofBits FTy.f32 0x7F800000#32) = 1#1) : y = (y.toReal : EReal) := by
  have hi : Ideal.ofBits FTy.f32 0x7F800000#32 = ⊤ := by
    simp [Ideal.ofBits, Ideal.ieee]
  rw [hi] at h
  have h' : max y (-y) < ⊤ := by
    by_contra hn
    rw [show Ideal.cmp .olt (max y (-y)) ⊤ = BitVec.ofBool (decide (max y (-y) < ⊤)) from rfl, decide_eq_false hn] at h
    exact absurd h (by decide)
  have h1 : y < ⊤ := lt_of_le_of_lt (le_max_left _ _) h'
  have h2 : -y < ⊤ := lt_of_le_of_lt (le_max_right _ _) h'
  refine (EReal.coe_toReal h1.ne fun hb => ?_).symm
  rw [hb] at h2
  simp at h2

theorem finite_of_pre (x : FVec Ideal S16896x6656 .f32) (h : fn (F := Ideal) x = fun _ => 1#1) : Finite x := by
  have h0 := congrFun h (fun k => k.elim0)
  have hand : ∀ a b : BitVec 1, IntOp.andi a b = 1#1 → a = 1#1 ∧ b = 1#1 := by decide
  obtain ⟨ha, hb⟩ := hand _ _ (show IntOp.andi _ _ = 1#1 from h0)
  intro r c hr hc
  rcases hc with hc | hc
  · have := Host.reduce_andi_all _ _ _ _ _ ha (ix2 (⟨r, hr⟩ : Fin 16384) (⟨c, hc⟩ : Fin 512))
    pointwise at this
    rw [elem_of_lt x] at this
    exact coe_of_abs_lt this
  · have := Host.reduce_andi_all _ _ _ _ _ hb (ix2 (⟨r, hr⟩ : Fin 16384) (⟨c - 2560, by omega⟩ : Fin 128))
    pointwise at this
    rw [elem_of_lt x, show 2560 + (c - 2560) = c by omega] at this
    exact coe_of_abs_lt this
end Cert.Pre_pre.Sb
-- ==== Proof.HgClaim.lean ====
module
public import proofs.«01_k».proof.Defs
public import proofs.«01_k».proof.Proof.Gen.Pre_pre_step
public import proofs.«01_k».proof.Proof.HgValue
public import proofs.«01_k».proof.Proof.HgRef
public import proofs.«01_k».proof.Proof.SbPre
import Idealize.ShloMosaic.Lib.ReduceAll
import Idealize.ShloMosaic.Lib.Pointwise
import Idealize.ShloMosaic.Lib.Pipeline.ValueKit
import Idealize.ShloMosaic.Lib.Claim
/-!
The recurrence's decoding step: its precondition read, and the kernel's two results equal the reference's.
-/
set_option maxRecDepth 16384
@[expose] public section
noncomputable section
namespace Cert.Pre_pre_step.Step
open Cert.Pre_pre_step Idealize.ShloMosaic

instance : Subsingleton S_.Idx := ⟨fun a b => funext fun k => k.elim0⟩

/-- A comparison that holds is an inequality. -/
theorem le_of_oge {y z : EReal} (h : Ideal.cmp .oge y z = 1#1) : z ≤ y := by
  by_contra hn
  rw [show Ideal.cmp .oge y z = BitVec.ofBool (decide (z ≤ y)) from rfl, decide_eq_false hn] at h
  exact absurd h (by decide)

theorem le_of_ole {y z : EReal} (h : Ideal.cmp .ole y z = 1#1) : y ≤ z := by
  by_contra hn
  rw [show Ideal.cmp .ole y z = BitVec.ofBool (decide (y ≤ z)) from rfl, decide_eq_false hn] at h
  exact absurd h (by decide)

theorem good_of_pre (x : FVec Ideal S16896x6656 .f32) (a1 : FVec Ideal S512 .f32) (a2 a3) (h : fn (F := Ideal) x a1 a2 a3 = fun _ => 1#1) : Cert.Hg.Good x a1 := by
  have h0 := congrFun h (fun k => k.elim0)
  have hand : ∀ a b : BitVec 1, IntOp.andi a b = 1#1 → a = 1#1 ∧ b = 1#1 := by decide
  obtain ⟨hab, hc⟩ := hand _ _ (show IntOp.andi _ _ = 1#1 from h0)
  obtain ⟨ha, hb⟩ := hand _ _ (show IntOp.andi _ _ = 1#1 from hab)
  refine ⟨fun b h t d => ?_, fun i => ?_, fun i => ?_⟩
  · have := Host.reduce_andi_all _ _ _ _ _ ha (ix2 (⟨b * 4 + t, by omega⟩ : Fin 512) (⟨h * 128 + d, by omega⟩ : Fin 512))
    pointwise at this
    exact ⟨_, Cert.Pre_pre.Sb.coe_of_abs_lt this⟩
  · have := Host.reduce_andi_all _ _ _ _ _ hb (ix1 i)
    pointwise at this
    exact le_of_oge this
  · have := Host.reduce_andi_all _ _ _ _ _ hc (ix1 i)
    pointwise at this
    exact le_of_ole this
end Cert.Pre_pre_step.Step

namespace Cert.Proof
open Idealize.ShloMosaic Idealize.SL.Sem Idealize.ShloMosaic.StableHlo

/-- The reference's output at a row and a lane. -/
theorem step_output (X : FVec Ideal Cert.Reference6Ideal.S16896x6656 .f32) (lb) (gn) (S) (g : Cert.Hg.Good X lb) :
    Cert.Reference6Ideal.Step.output X lb gn S = fun y => Cert.Kernel6Ideal.Step.mixedAt X lb gn S (y 0) (y 1) := by
  funext y
  idx_vars y
  have e : (ix2 y0 y1 : Cert.Reference6Ideal.S512x512.Idx) = ix2 ⟨(y0.val / 4) * 4 + y0.val % 4, by omega⟩ ⟨(y1.val / 128) * 128 + y1.val % 128, by omega⟩ := by
    congr 1 <;> exact Fin.ext (by dsimp only; omega)
  rw [e]
  exact Cert.Reference6Ideal.Step.output_at X lb S gn ⟨y0.val / 4, by omega⟩ ⟨y1.val / 128, by omega⟩ ⟨y0.val % 4, by omega⟩ ⟨y1.val % 128, by omega⟩ g

set_option maxHeartbeats 1600000 in
/-- The decoding step's two results are the reference's, element by element. -/
theorem algebraic_step : Cert.algebraic_Kernel6Ideal_Reference6Ideal_pre_pre_step := by
  intro m g m' g' hpre hagree
  have hx : ∀ c, Cert.Hg.Good (Cert.Kernel6Ideal.Step.proj m c) (Cert.Kernel6Ideal.Step.bounds m c) := fun c => Cert.Pre_pre_step.Step.good_of_pre _ _ _ _ (hpre c)
  refine ⟨fun c => (Cert.Kernel6Ideal.Gen.dats m 0 c).arrAt 8 (Cert.Kernel6Ideal.cfgs 0).N, fun c => (Cert.Kernel6Ideal.Gen.dats m 0 c).arrAt 9 (Cert.Kernel6Ideal.cfgs 0).N, ?_, ?_⟩
  · refine θ_run_mono (θ_run_and (Cert.Kernel6Ideal.Gen.run_main m g) (Cert.Kernel6Ideal.Gen.unchanged m g)) ?_
    intro r hr c
    exact ⟨(hr.1 c).1 8, (hr.1 c).1 9, hr.2 c⟩
  · refine θ_run_mono (Cert.Reference6Ideal.Value.run (F := Ideal) m' g') ?_
    intro r hr c
    obtain ⟨r0, r1, hrest⟩ := hr c
    obtain ⟨h0, h1, h2, h3⟩ := hagree c
    refine ⟨?_, ?_, hrest⟩
    · refine r0.trans ((Cert.Reference6Ideal.Step.output_eq m' c).trans ?_)
      rw [h0, h1, h2, h3]
      exact (step_output _ _ _ _ (hx c)).trans (Cert.Kernel6Ideal.Step.final8 m c (hx c)).symm
    · refine r1.trans ((Cert.Reference6Ideal.Step.after_eq m' c).trans ?_)
      rw [h0, h1, h3]
      refine Eq.trans ?_ (Cert.Kernel6Ideal.Step.final9 m c (hx c)).symm
      funext y
      idx_vars y
      exact Cert.Reference6Ideal.Step.after_at _ _ _ _ _ _ _ (hx c)
end Cert.Proof
end
-- ==== Proof.PrepMath.lean ====
module
public import Idealize.ShloMosaic.Lib.Pointwise
public import proofs.«01_k».proof.Proof.SbMath
/-!
The arithmetic of one row of the latent attention's preparation, over the extended reals, for plain functions:
the rotary turn of 32 lanes, once as the reference writes it (two halves) and once as the kernel does it on a
vector of 128 lanes with tables that leave the other lanes alone; a head's two root-mean-square scales, once as
means over 64 and 32 lanes and once as masked sums over 128 lanes times a constant; and that they agree.
-/
@[expose] public section
noncomputable section
namespace Cert.Prep
open Idealize.ShloMosaic

/-- The constant under every root. -/
abbrev eps : EReal := Ideal.ofBits .f32 0x358637BD#32

/-- The logits' scale, as the word both programs hold. -/
abbrev scale : EReal := Ideal.ofBits .f32 0x3DD105EC#32

theorem mul_thirtysecond (s : EReal) : s * Ideal.ofBits .f32 0x3D000000#32 = Ideal.div s (Ideal.ofBits .f32 0x42000000#32) := by
  have h1 : Ideal.ofBits .f32 0x3D000000#32 = ((1 / 32 : ℝ) : EReal) := by
    simp [Ideal.ofBits, Ideal.ieee]
    rw [← EReal.coe_mul]
    norm_num
  have h2 : Ideal.ofBits .f32 0x42000000#32 = ((32 : ℝ) : EReal) := by
    simp [Ideal.ofBits, Ideal.ieee]
    rw [← EReal.coe_mul]
    norm_num
  rw [h1, h2, Ideal.div_coe (by norm_num)]

theorem mul_sixtyfourth (s : EReal) : s * Ideal.ofBits .f32 0x3C800000#32 = Ideal.div s (Ideal.ofBits .f32 0x42800000#32) := by
  have h1 : Ideal.ofBits .f32 0x3C800000#32 = ((1 / 64 : ℝ) : EReal) := by
    simp [Ideal.ofBits, Ideal.ieee]
    rw [← EReal.coe_mul]
    norm_num
  have h2 : Ideal.ofBits .f32 0x42800000#32 = ((64 : ℝ) : EReal) := by
    simp [Ideal.ofBits, Ideal.ieee]
    rw [← EReal.coe_mul]
    norm_num
  rw [h1, h2, Ideal.div_coe (by norm_num)]

theorem scale_real : ∃ x : ℝ, 0 ≤ x ∧ scale = (x : EReal) := by
  refine ⟨(Ideal.ofBits .f32 0x3DD105EC#32 : EReal).toReal, ?_, ?_⟩ <;> simp [scale, Ideal.ofBits, Ideal.ieee] <;> rw [← EReal.coe_mul]
  · rw [EReal.toReal_coe]; norm_num
  · rw [EReal.toReal_coe]

/-- The scale distributes, being a nonnegative real. -/
theorem add_mul_scale (u v : EReal) : (u + v) * scale = u * scale + v * scale := by
  obtain ⟨x, h0, hx⟩ := scale_real
  rw [hx]
  exact EReal.right_distrib_of_nonneg_of_ne_top (by exact_mod_cast h0) (EReal.coe_ne_top x) u v

theorem lane_select {α : Type} {n b : ℕ} (hn : n < 2 ^ 31) (hb : b < 2 ^ 31) (x y : α) :
    Scalar.select (IntOp.cmpi CmpIPredicate.slt (BitVec.ofNat 32 n) (BitVec.ofNat 32 b)) x y = if n < b then x else y := by
  unfold Scalar.select IntOp.cmpi
  simp only [Cert.Sb.slt_ofNat hn hb]
  by_cases h : n < b <;> simp [h]

/-- A comparison of a lane's number with 64, as the kernel's selects read it. -/
theorem lane64 {α : Type} {n : ℕ} (hn : n < 2 ^ 31) (x y : α) :
    Scalar.select (IntOp.cmpi CmpIPredicate.slt (BitVec.ofNat 32 n) 64#32) x y = if n < 64 then x else y :=
  lane_select hn (by norm_num) x y

/-- … and with 80. -/
theorem lane80 {α : Type} {n : ℕ} (hn : n < 2 ^ 31) (x y : α) :
    Scalar.select (IntOp.cmpi CmpIPredicate.slt (BitVec.ofNat 32 n) 80#32) x y = if n < 80 then x else y :=
  lane_select hn (by norm_num) x y

/-! ### The rotary turn -/

/-- Two halves of 16 lanes, turned by the angles `ang`. -/
def halves (a : Fin 32 → EReal) (ang : ℕ → EReal) (j : Fin 32) : EReal :=
  if h : j.val < 16 then a j * Ideal.cos (ang j) - a ⟨16 + j, by omega⟩ * Ideal.sin (ang j)
  else a j * Ideal.cos (ang (j - 16)) + a ⟨j - 16, by omega⟩ * Ideal.sin (ang (j - 16))

/-- The kernel's table of cosines over the 128 lanes. -/
def cosLane (ang : ℕ → EReal) (l : Fin 128) : EReal :=
  if l.val < 64 then 1 else if l.val < 80 then Ideal.cos (ang (l - 64)) else if l.val < 96 then Ideal.cos (ang (l - 80)) else 1

/-- The kernel's table of signed sines over the 128 lanes. -/
def sinLane (ang : ℕ → EReal) (l : Fin 128) : EReal :=
  if l.val < 64 then 0 else if l.val < 80 then -Ideal.sin (ang (l - 64)) else if l.val < 96 then Ideal.sin (ang (l - 80)) else 0

/-- The kernel's turn: every lane times its cosine, plus the lane 16 further on or 16 back times its sine. -/
def turned (y C S : Fin 128 → EReal) (l : Fin 128) : EReal :=
  y l * C l + (if l.val < 80 then y ⟨(l.val + 128 - 112) % 128, Nat.mod_lt _ (by norm_num)⟩ else y ⟨(l.val + 128 - 16) % 128, Nat.mod_lt _ (by norm_num)⟩) * S l

theorem turned_rest (y : Fin 128 → EReal) (ang : ℕ → EReal) (l : Fin 128) (h : l.val < 64 ∨ 96 ≤ l.val) :
    turned y (cosLane ang) (sinLane ang) l = y l := by
  have hc : cosLane ang l = 1 := by
    unfold cosLane
    rcases h with h | h
    · rw [if_pos h]
    · rw [if_neg (by omega), if_neg (by omega), if_neg (by omega)]
  have hs : sinLane ang l = 0 := by
    unfold sinLane
    rcases h with h | h
    · rw [if_pos h]
    · rw [if_neg (by omega), if_neg (by omega), if_neg (by omega)]
  rw [turned, hc, hs, mul_one, mul_zero, add_zero]

theorem turned_mid (y : Fin 128 → EReal) (ang : ℕ → EReal) (l : Fin 128) (h : 64 ≤ l.val) (h' : l.val < 96) :
    turned y (cosLane ang) (sinLane ang) l = halves (fun j => y ⟨64 + j, by omega⟩) ang ⟨l - 64, by omega⟩ := by
  unfold turned halves cosLane sinLane
  have h0 : ¬ l.val < 64 := by omega
  simp only [if_neg h0]
  by_cases hl : l.val < 80
  · have h1 : l.val - 64 < 16 := by omega
    simp only [if_pos hl, dif_pos h1, mul_neg, sub_eq_add_neg]
    congr 3
    · congr 1; apply Fin.ext; simp; omega
    · exact congrArg y (Fin.ext (by show (l.val + 128 - 112) % 128 = 64 + (16 + (l.val - 64)); omega))
  · have h1 : ¬ l.val - 64 < 16 := by omega
    simp only [if_neg hl, if_pos h', dif_neg h1]
    have e : l.val - 64 - 16 = l.val - 80 := by omega
    simp only [e]
    congr 2
    · congr 1; apply Fin.ext; simp; omega
    · congr 1; apply Fin.ext; simp; omega

theorem halves_scale (a : Fin 32 → EReal) (ang : ℕ → EReal) (j : Fin 32) :
    halves (fun j => a j * scale) ang j = halves a ang j * scale := by
  unfold halves
  split
  · rw [sub_eq_add_neg, sub_eq_add_neg, add_mul_scale, EReal.neg_mul, mul_right_comm, mul_right_comm _ scale]
  · rw [add_mul_scale, mul_right_comm, mul_right_comm _ scale]

/-! ### A head's scales -/

/-- A vector of `n` lanes, padded with zeros to 128. -/
def padTo (n : ℕ) (a : Fin n → EReal) (l : Fin 128) : EReal := if h : l.val < n then a ⟨l, h⟩ else 0

/-- The reciprocal root mean square of the first 64 lanes. -/
def root64 (a : Fin 64 → EReal) : EReal := Ideal.rsqrt (Ideal.div (∑ k, a k * a k) (Ideal.ofBits .f32 0x42800000#32) + eps)

/-- The reciprocal root mean square of 32 lanes. -/
def root32 (a : Fin 32 → EReal) : EReal := Ideal.rsqrt (Ideal.div (∑ k, a k * a k) (Ideal.ofBits .f32 0x42000000#32) + eps)

/-- A sum over the 128 lanes that is zero outside a stretch of `n` lanes from `o` on is the sum over the stretch. -/
theorem sum_stretch (o n : ℕ) (hon : o + n ≤ 128) (f : Fin 128 → EReal) (hf : ∀ l : Fin 128, l.val < o ∨ o + n ≤ l.val → f l = 0) :
    ∑ l, f l = ∑ k : Fin n, f ⟨o + k, by omega⟩ := by
  symm
  refine Finset.sum_of_injOn (fun k : Fin n => (⟨o + k, by omega⟩ : Fin 128)) ?_ (fun _ _ => Finset.mem_coe.2 (Finset.mem_univ _)) ?_ (fun _ _ => rfl)
  · intro a _ b _ h
    apply Fin.ext
    have := Fin.mk.inj_iff.1 h
    omega
  · intro l _ hl
    refine hf l ?_
    by_contra hc
    push Not at hc
    refine hl ⟨⟨l - o, by omega⟩, Finset.mem_coe.2 (Finset.mem_univ _), Fin.ext ?_⟩
    simp only
    omega

/-! ### A query's head -/

/-- A query's head as the reference has it: 64 lanes scaled with their gain, the keys' gain and the logits' scale; 32 lanes
    scaled with their gain, turned, times the logits' scale; zeros. -/
def query (col : Fin 96 → EReal) (qn kn : Fin 64 → EReal) (qr : Fin 32 → EReal) (ang : ℕ → EReal) (l : Fin 128) : EReal :=
  if h : l.val < 64 then col ⟨l, by omega⟩ * root64 (fun k => col ⟨k, by omega⟩) * qn ⟨l, h⟩ * (kn ⟨l, h⟩ * scale)
  else if h : l.val < 96 then
    halves (fun j => col ⟨64 + j, by omega⟩ * root32 (fun k => col ⟨64 + k, by omega⟩) * qr j) ang ⟨l - 64, by omega⟩ * scale
  else 0

/-- The gain's lanes as the kernel takes them. -/
def gainLane (qn kn : Fin 64 → EReal) (qr : Fin 32 → EReal) (l : Fin 128) : EReal :=
  if h : l.val < 64 then qn ⟨l, h⟩ * kn ⟨l, h⟩ * scale else if h : l.val < 96 then qr ⟨l - 64, by omega⟩ * scale else 0

/-- The kernel's head before the turn: each lane times the scale of its part and its gain. -/
def scaled (x g : Fin 128 → EReal) (l : Fin 128) : EReal :=
  x l * (if l.val < 64 then Ideal.rsqrt ((∑ k : Fin 128, if k.val < 64 then x k * x k else 0) * Ideal.ofBits .f32 0x3C800000#32 + eps)
    else Ideal.rsqrt ((∑ k : Fin 128, if k.val < 64 then 0 else x k * x k) * Ideal.ofBits .f32 0x3D000000#32 + eps)) * g l

theorem turned_query (col : Fin 96 → EReal) (qn kn : Fin 64 → EReal) (qr : Fin 32 → EReal) (ang : ℕ → EReal) (l : Fin 128) :
    turned (scaled (padTo 96 col) (gainLane qn kn qr)) (cosLane ang) (sinLane ang) l = query col qn kn qr ang l := by
  have h64 : Ideal.rsqrt ((∑ k : Fin 128, if k.val < 64 then padTo 96 col k * padTo 96 col k else 0) * Ideal.ofBits .f32 0x3C800000#32 + eps)
      = root64 (fun k => col ⟨k, by omega⟩) := by
    rw [mul_sixtyfourth, sum_stretch 0 64 (by norm_num) _ (fun l hl => if_neg (by omega))]
    unfold root64
    congr 3
  have h32 : Ideal.rsqrt ((∑ k : Fin 128, if k.val < 64 then 0 else padTo 96 col k * padTo 96 col k) * Ideal.ofBits .f32 0x3D000000#32 + eps)
      = root32 (fun k => col ⟨64 + k, by omega⟩) := by
    rw [mul_thirtysecond, sum_stretch 64 32 (by norm_num) _ (fun l hl => by
      rcases hl with hl | hl
      · exact if_pos hl
      · rw [if_neg (by omega), padTo, dif_neg (by omega), mul_zero])]
    unfold root32
    congr 3
  have hs : ∀ l : Fin 128, scaled (padTo 96 col) (gainLane qn kn qr) l
      = padTo 96 col l * (if l.val < 64 then root64 (fun k => col ⟨k, by omega⟩) else root32 (fun k => col ⟨64 + k, by omega⟩)) * gainLane qn kn qr l := by
    intro l
    rw [scaled, h64, h32]
  unfold query
  by_cases h : l.val < 64
  · rw [turned_rest _ _ _ (.inl h), dif_pos h, hs, if_pos h, padTo, dif_pos (by omega), gainLane, dif_pos h]
    simp only [mul_assoc]
  · rw [dif_neg h]
    by_cases h' : l.val < 96
    · rw [turned_mid _ _ _ (by omega) h', dif_pos h', ← halves_scale]
      congr 1
      funext j
      rw [hs, if_neg (by simp), padTo, dif_pos (by simp; omega), gainLane, dif_neg (by simp), dif_pos (by simp; omega), ← mul_assoc]
      congr 3 <;> simp
    · rw [turned_rest _ _ _ (.inr (by omega)), dif_neg h', hs, padTo, dif_neg h', zero_mul, zero_mul]

/-! ### The rotary key and a key's head -/

/-- The kernel's rotary key on 128 lanes, with its tables. -/
def keyLane (x g C S : Fin 128 → EReal) (l : Fin 128) : EReal :=
  turned (fun l => x l * Ideal.rsqrt ((∑ k, x k * x k) * Ideal.ofBits .f32 0x3D000000#32 + eps) * g l) C S l

/-- The rotary key as the reference has it. -/
def rotary (a kr : Fin 32 → EReal) (ang : ℕ → EReal) (j : Fin 32) : EReal :=
  halves (fun j => a j * root32 a * kr j) ang j

/-- 32 lanes in the middle of 128, zeros around. -/
def middle (a : Fin 32 → EReal) (l : Fin 128) : EReal := if h : 64 ≤ l.val ∧ l.val < 96 then a ⟨l - 64, by omega⟩ else 0

theorem middle_at (a : Fin 32 → EReal) (j : Fin 32) (h : 64 + j.val < 128) : middle a ⟨64 + j, h⟩ = a j := by
  rw [middle, dif_pos ⟨by simp, by simp; omega⟩]
  congr 1
  apply Fin.ext
  simp

theorem keyLane_eq (a kr : Fin 32 → EReal) (ang : ℕ → EReal) (l : Fin 128) :
    keyLane (middle a) (middle kr) (cosLane ang) (sinLane ang) l = middle (rotary a kr ang) l := by
  have h32 : Ideal.rsqrt ((∑ k, middle a k * middle a k) * Ideal.ofBits .f32 0x3D000000#32 + eps) = root32 a := by
    rw [mul_thirtysecond, sum_stretch 64 32 (by norm_num) _ (fun l hl => by rw [middle, dif_neg (by omega), mul_zero])]
    unfold root32
    congr 3
  unfold keyLane
  rw [h32]
  by_cases h : 64 ≤ l.val ∧ l.val < 96
  · rw [turned_mid _ _ _ h.1 h.2, middle, dif_pos h, rotary]
    congr 1
    funext j
    rw [middle_at, middle_at]
  · rw [turned_rest _ _ _ (by omega), middle, middle, dif_neg h, middle, dif_neg h, dif_neg h, zero_mul, zero_mul]

/-- A key's head: 64 lanes scaled, the rotary key, zeros. -/
def key (col : Fin 64 → EReal) (kr : Fin 32 → EReal) (l : Fin 128) : EReal :=
  if h : l.val < 64 then col ⟨l, h⟩ * root64 col else if h : l.val < 96 then kr ⟨l - 64, by omega⟩ else 0

/-- The kernel's key head: its lanes times their scale, plus the rotary key's lanes. -/
def keyHead (x K : Fin 128 → EReal) (l : Fin 128) : EReal :=
  x l * Ideal.rsqrt ((∑ k, x k * x k) * Ideal.ofBits .f32 0x3C800000#32 + eps) + K l

theorem keyHead_eq (col : Fin 64 → EReal) (kr : Fin 32 → EReal) (l : Fin 128) :
    keyHead (padTo 64 col) (middle kr) l = key col kr l := by
  unfold keyHead
  have h64 : Ideal.rsqrt ((∑ k, padTo 64 col k * padTo 64 col k) * Ideal.ofBits .f32 0x3C800000#32 + eps) = root64 col := by
    rw [mul_sixtyfourth, sum_stretch 0 64 (by norm_num) _ (fun l hl => by rw [padTo, dif_neg (by omega), mul_zero])]
    unfold root64
    congr 3
  rw [h64, padTo, middle, key]
  by_cases h : l.val < 64
  · rw [dif_pos h, dif_pos h, dif_neg (by omega), add_zero]
  · rw [dif_neg h, dif_neg h, zero_mul, zero_add]
    by_cases h' : l.val < 96
    · rw [dif_pos ⟨by omega, h'⟩, dif_pos h']
    · rw [dif_neg (by omega), dif_neg h']

/-! ### The rows -/

/-- A row's position: the prompts' rows count to 2048 over and over, the samples' from 8192 to 8195. -/
def place (r : Fin 16896) : BitVec 32 :=
  if r.val < 16384 then BitVec.ofNat 32 (r.val % 2048) else IntOp.addi 8192#32 (BitVec.ofNat 32 ((r.val - 16384) % 4))

/-- The angle of a row at the `j`-th frequency. -/
def angle (r : Fin 16896) (j : ℕ) : EReal :=
  FloatOps.sitofp (F := Ideal) .f32 (place r) * Ideal.pow (Ideal.ofBits .f32 0x461C4000#32) (Ideal.div (-FloatOps.sitofp (F := Ideal) .f32 (BitVec.ofNat 32 j)) (Ideal.ofBits .f32 0x41800000#32))

/-- A row times the reciprocal root of its mean square (`w` the word of its length) times its gain. -/
def normed {n : ℕ} (x g : Fin n → EReal) (w : EReal) (k : Fin n) : EReal :=
  x k * Ideal.rsqrt (Ideal.div (∑ j, x j * x j) w + eps) * g k

/-- One head of the up-projected queries of a row. -/
def queryCol (a0 : Fin 6656 → EReal) (a1 : Fin 384 → EReal) (a3 : Fin 384 → Fin 768 → EReal) (h : Fin 8) (j : Fin 96) : EReal :=
  ∑ x, normed (fun k => a0 ⟨6144 + k, by omega⟩) a1 (Ideal.ofBits .f32 0x43C00000#32) x * a3 x ⟨h * 96 + j, by omega⟩

/-- The latent of a row. -/
def latent (a0 : Fin 6656 → EReal) (a2 : Fin 256 → EReal) (k : Fin 256) : EReal :=
  normed (fun k => a0 ⟨2816 + k, by omega⟩) a2 (Ideal.ofBits .f32 0x43800000#32) k

/-- A column of the latent times its up-projection. -/
def upCol (a0 : Fin 6656 → EReal) (a2 : Fin 256 → EReal) (a4 : Fin 256 → Fin 1024 → EReal) (n : Fin 1024) : EReal :=
  ∑ x, latent a0 a2 x * a4 x n

/-- A query entry of a row. -/
def qAt (a0 : Fin 16896 → Fin 6656 → EReal) (a1 : Fin 384 → EReal) (a3 : Fin 384 → Fin 768 → EReal) (a5 a6 : Fin 64 → EReal) (a7 : Fin 32 → EReal)
    (r : Fin 16896) (l : Fin 1024) : EReal :=
  query (queryCol (a0 r) a1 a3 ⟨l / 128, by omega⟩) a5 a6 a7 (angle r) ⟨l % 128, by omega⟩

/-- A rotary key entry of a row. -/
def rotAt (a0 : Fin 16896 → Fin 6656 → EReal) (a8 : Fin 32 → EReal) (r : Fin 16896) (j : Fin 32) : EReal :=
  rotary (fun k => a0 r ⟨6592 + k, by omega⟩) a8 (angle r) j

/-- A key entry of a row. -/
def kAt (a0 : Fin 16896 → Fin 6656 → EReal) (a2 : Fin 256 → EReal) (a4 : Fin 256 → Fin 1024 → EReal) (a8 : Fin 32 → EReal) (r : Fin 16896) (l : Fin 1024) : EReal :=
  key (fun j => upCol (a0 r) a2 a4 ⟨l / 128 * 128 + j, by omega⟩) (rotAt a0 a8 r) ⟨l % 128, by omega⟩

/-- A value entry of a row. -/
def vAt (a0 : Fin 16896 → Fin 6656 → EReal) (a2 : Fin 256 → EReal) (a4 : Fin 256 → Fin 1024 → EReal) (r : Fin 16896) (l : Fin 512) : EReal :=
  upCol (a0 r) a2 a4 ⟨l / 64 * 128 + (64 + l % 64), by omega⟩

/-- Padding a weight's columns pads the product's. -/
theorem sum_mul_padTo {n w : ℕ} (y : Fin n → EReal) (a : Fin n → Fin w → EReal) (l : Fin 128) :
    ∑ x, y x * padTo w (a x) l = padTo w (fun j => ∑ x, y x * a x j) l := by
  unfold padTo
  split
  · rfl
  · simp

end Cert.Prep
end
-- ==== Proof.PrepCore.lean ====
module
public import proofs.«01_k».proof.Defs
public import proofs.«01_k».proof.Proof.Gen.Kernel5Ideal.Value
public import Idealize.ShloMosaic.PureOps.Ideal
public import proofs.«01_k».proof.Proof.PrepMath
public import Idealize.ShloMosaic.Lib.Pointwise
import Idealize.ShloMosaic.Lib.Pipeline.ValueKit
import Idealize.ShloMosaic.Lib.Claim
/-!
What the body of the latent attention's preparation leaves in each of its five output blocks, entry by entry, in terms of
the blocks it reads: a query head is its 128 lanes scaled, gained and turned; a key head its lanes scaled plus the rotary
key; the latent its row normalised; the values the latent times the value weights.
-/
set_option maxRecDepth 16384
@[expose] public section
noncomputable section
namespace Cert.Kernel5Ideal.Core
open Cert.Prep Cert.Kernel5Ideal Cert.Kernel5Ideal.Gen Idealize.ShloMosaic Idealize.ShloMosaic.TcCoe Idealize.SL.Sem Idealize.ShloMosaic.StableHlo
variable (m : (ℓ : Loc nD τ sig) → Buf (Elt Ideal) ℓ) (c : Dev nD)

/-- One query head as the kernel computes it: 128 lanes of the up-projected queries from lane `o` on, scaled, turned. -/
def head (Q : FVec Ideal S256x1024 .f32) (g : Vec Ideal S1x128 .f32) (C S : Vec Ideal S256x128 .f32) (r : Fin 256) (o : ℕ) (ho : o + 128 ≤ 1024) (l : Fin 128) : EReal :=
  turned (scaled (fun k => Q (ix2 r ⟨o + k, by omega⟩)) (fun k => g (ix2 0 k))) (fun k => C (ix2 r k)) (fun k => S (ix2 r k)) l

/-- The queries' block read at an entry. -/
def out12 (X : Vec Ideal S256x1024 .bf16) (r : Fin 256) (l : Fin 1024) : EReal := X (ix2 r l)

/-- The head that a lane of 1024 lies in. -/
theorem head_at (Q : FVec Ideal S256x1024 .f32) (g : Vec Ideal S1x128 .f32) (C S : Vec Ideal S256x128 .f32) (r : Fin 256) (l : Fin 1024) (h : l.val / 128 * 128 + 128 ≤ 1024)
    (o : ℕ) (z : Fin 128) (e : l.val = o + z.val) (ho : o % 128 = 0) :
    head Q g C S r (l.val / 128 * 128) h ⟨l.val % 128, Nat.mod_lt _ (by norm_num)⟩ = head Q g C S r o (by omega) z := by
  have e1 : l.val / 128 * 128 = o := by omega
  have e2 : (⟨l.val % 128, Nat.mod_lt _ (by norm_num)⟩ : Fin 128) = z := Fin.ext (by show l.val % 128 = z.val; omega)
  simp only [e1, e2]

/-- What the body leaves in the queries' block. -/
theorem core12 (t : Fin cfg0.N) (r : Fin 256) (l : Fin 1024) : out12 ((outsAt0 m c t).1) r l
    = head (k0_pay9 (F := Ideal) (X0_0 m c t) (k0_pay7 (X0_0 m c t)) k0_pay8 (iblk m c 3 t) (iblk m c 9 t)) (iblk m c 5 t) (iblk m c 7 t) (iblk m c 8 t) r (l.val / 128 * 128) (by omega) ⟨l.val % 128, Nat.mod_lt _ (by norm_num)⟩ := by
  unfold out12 outsAt0
  generalize X0_0 m c t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  dsimp only
  have hp := head_at (k0_pay9 (F := Ideal) x0 (k0_pay7 x0) k0_pay8 x3 x9) x5 x7 x8 r l (by omega)
  generalize head (k0_pay9 (F := Ideal) x0 (k0_pay7 x0) k0_pay8 x3 x9) x5 x7 x8 r (l.val / 128 * 128) (by omega) ⟨l.val % 128, Nat.mod_lt _ (by norm_num)⟩ = p at hp ⊢
  frame_out
  canon_tiles y e
  all_goals
    idx_vars y
    have er : r = y0 := Fin.ext e0
    subst er
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    generalize k0_pay9 x0 (k0_pay7 x0) k0_pay8 x3 x9 = Q at hp ⊢
    pointwise [k0_pay2, k0_pay3, k0_pay4]
    simp (disch := omega) only [lane64, lane80]
    first
      | exact (hp _ y1 e1 rfl).symm
      | (refine Eq.trans ?_ (hp 0 y1 (e1.trans (Nat.zero_add _).symm) rfl).symm
         simp only [head, turned, scaled, Nat.zero_add])

/-- The latents' block read at an entry. -/
def out13 (X : Vec Ideal S256x256 .f32) (r : Fin 256) (l : Fin 256) : EReal := X (ix2 r l)

/-- A row of the latents' block. -/
def lat (x1 : Vec Ideal S256x256 .f32) (x4 : Vec Ideal S1x256 .f32) (r : Fin 256) (l : Fin 256) : EReal :=
  normed (fun k => x1 (ix2 r k)) (fun k => x4 (ix2 0 k)) (Ideal.ofBits .f32 0x43800000#32) l

/-- What the body leaves in the latents' block. -/
theorem core13 (t : Fin cfg0.N) (r : Fin 256) (l : Fin 256) : out13 ((outsAt0 m c t).2.1) r l = lat (iblk m c 1 t) (iblk m c 4 t) r l := by
  unfold out13 outsAt0
  generalize X0_0 m c t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  dsimp only
  generalize hp : lat x1 x4 r l = p
  frame_out
  pointwise [k0_pay31, k0_pay29, k0_pay30]
  rw [← hp]
  rfl

/-- The rotary keys' block read at an entry. -/
def out14 (X : Vec Ideal S256x32 .f32) (r : Fin 256) (l : Fin 32) : EReal := X (ix2 r l)

/-- A row of the rotary keys on 128 lanes. -/
def rot (x2 : Vec Ideal S256x128 .f32) (x6 : Vec Ideal S1x128 .f32) (x7 x8 : Vec Ideal S256x128 .f32) (r : Fin 256) (l : Fin 128) : EReal :=
  keyLane (fun k => x2 (ix2 r k)) (fun k => x6 (ix2 0 k)) (fun k => x7 (ix2 r k)) (fun k => x8 (ix2 r k)) l

theorem rot_eq (x2 : Vec Ideal S256x128 .f32) (x6 : Vec Ideal S1x128 .f32) (x7 x8 : Vec Ideal S256x128 .f32) (r : Fin 256) (l : Fin 128) :
    k0_pay5 (F := Ideal) x7 x8 x2 x6 (ix2 r l) = rot x2 x6 x7 x8 r l := by
  generalize hp : rot x2 x6 x7 x8 r l = p
  pointwise [k0_pay5, k0_pay3, k0_pay4]
  simp (disch := omega) only [lane80]
  rw [← hp]
  rfl

/-- What the body leaves in the rotary keys' block. -/
theorem core14 (t : Fin cfg0.N) (r : Fin 256) (l : Fin 32) :
    out14 ((outsAt0 m c t).2.2.1) r l = rot (iblk m c 2 t) (iblk m c 6 t) (iblk m c 7 t) (iblk m c 8 t) r ⟨64 + l, by omega⟩ := by
  unfold out14 outsAt0
  generalize X0_0 m c t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  dsimp only
  rw [← rot_eq]
  frame_out
  pointwise [k0_pay6]

/-- The values' block read at an entry. -/
def out16 (X : Vec Ideal S256x512 .bf16) (r : Fin 256) (l : Fin 512) : EReal := X (ix2 r l)

theorem lat_eq (x1 : Vec Ideal S256x256 .f32) (x4 : Vec Ideal S1x256 .f32) (r : Fin 256) (l : Fin 256) :
    k0_pay32 (F := Ideal) x1 (k0_pay29 x1) k0_pay30 x4 (ix2 r l) = lat x1 x4 r l := by
  generalize hp : lat x1 x4 r l = p
  pointwise [k0_pay32, k0_pay31, k0_pay29, k0_pay30]
  rw [← hp]
  rfl

/-- What the body leaves in the values' block. -/
theorem core16 (t : Fin cfg0.N) (r : Fin 256) (l : Fin 512) :
    out16 ((outsAt0 m c t).2.2.2.2) r l = ∑ x, lat (iblk m c 1 t) (iblk m c 4 t) r x * (iblk m c 11 t : Vec Ideal S256x512 .bf16) (ix2 x l) := by
  unfold out16 outsAt0
  generalize X0_0 m c t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  dsimp only
  simp only [← lat_eq]
  frame_out
  pointwise [k0_pay1]

/-- The keys' block read at an entry. -/
def out15 (X : Vec Ideal S256x1024 .bf16) (r : Fin 256) (l : Fin 1024) : EReal := X (ix2 r l)

/-- One key head as the kernel computes it, from lane `o` on. -/
def keyAt (Q : FVec Ideal S256x1024 .f32) (K : FVec Ideal S256x128 .f32) (r : Fin 256) (o : ℕ) (ho : o + 128 ≤ 1024) (l : Fin 128) : EReal :=
  keyHead (fun k => Q (ix2 r ⟨o + k, by omega⟩)) (fun k => K (ix2 r k)) l

/-- The head that a lane of 1024 lies in. -/
theorem keyAt_at (Q : FVec Ideal S256x1024 .f32) (K : FVec Ideal S256x128 .f32) (r : Fin 256) (l : Fin 1024) (h : l.val / 128 * 128 + 128 ≤ 1024)
    (o : ℕ) (z : Fin 128) (e : l.val = o + z.val) (ho : o % 128 = 0) :
    keyAt Q K r (l.val / 128 * 128) h ⟨l.val % 128, Nat.mod_lt _ (by norm_num)⟩ = keyAt Q K r o (by omega) z := by
  have e1 : l.val / 128 * 128 = o := by omega
  have e2 : (⟨l.val % 128, Nat.mod_lt _ (by norm_num)⟩ : Fin 128) = z := Fin.ext (by show l.val % 128 = z.val; omega)
  simp only [e1, e2]

/-- What the body leaves in the keys' block. -/
theorem core15 (t : Fin cfg0.N) (r : Fin 256) (l : Fin 1024) : out15 ((outsAt0 m c t).2.2.2.1) r l
    = keyAt (k0_pay33 (F := Ideal) (iblk m c 1 t) (k0_pay29 (iblk m c 1 t)) k0_pay30 (iblk m c 4 t) (iblk m c 10 t))
        (k0_pay5 (F := Ideal) (iblk m c 7 t) (iblk m c 8 t) (iblk m c 2 t) (iblk m c 6 t)) r (l.val / 128 * 128) (by omega) ⟨l.val % 128, Nat.mod_lt _ (by norm_num)⟩ := by
  unfold out15 outsAt0
  generalize X0_0 m c t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  dsimp only
  have hp := keyAt_at (k0_pay33 (F := Ideal) x1 (k0_pay29 x1) k0_pay30 x4 x10) (k0_pay5 x7 x8 x2 x6) r l (by omega)
  generalize keyAt (k0_pay33 (F := Ideal) x1 (k0_pay29 x1) k0_pay30 x4 x10) (k0_pay5 x7 x8 x2 x6) r (l.val / 128 * 128) (by omega) ⟨l.val % 128, Nat.mod_lt _ (by norm_num)⟩ = p at hp ⊢
  frame_out
  canon_tiles y e
  all_goals
    idx_vars y
    have er : r = y0 := Fin.ext e0
    subst er
    simp only [k0_pay34, k0_pay35, k0_pay36, k0_pay37, k0_pay38, k0_pay39, k0_pay40, k0_pay41]
    generalize k0_pay33 x1 (k0_pay29 x1) k0_pay30 x4 x10 = Q at hp ⊢
    generalize k0_pay5 x7 x8 x2 x6 = K at hp ⊢
    pointwise
    first
      | exact (hp _ y1 e1 rfl).symm
      | (refine Eq.trans ?_ (hp 0 y1 (e1.trans (Nat.zero_add _).symm) rfl).symm
         simp only [keyAt, keyHead, Nat.zero_add])

/-- The up-projected queries and keys, entry by entry. -/
theorem query_up (x0 : Vec Ideal S256x384 .f32) (x3 : Vec Ideal S1x384 .f32) (x9 : Vec Ideal S384x1024 .bf16) (r : Fin 256) (l : Fin 1024) :
    k0_pay9 (F := Ideal) x0 (k0_pay7 x0) k0_pay8 x3 x9 (ix2 r l)
    = ∑ x, normed (fun k => x0 (ix2 r k)) (fun k => x3 (ix2 0 k)) (Ideal.ofBits .f32 0x43C00000#32) x * x9 (ix2 x l) := by
  generalize hp : (∑ x, normed (fun k => x0 (ix2 r k)) (fun k => x3 (ix2 0 k)) (Ideal.ofBits .f32 0x43C00000#32) x * x9 (ix2 x l)) = p
  pointwise [k0_pay9, k0_pay7, k0_pay8]
  rw [← hp]
  rfl

theorem key_up (x1 : Vec Ideal S256x256 .f32) (x4 : Vec Ideal S1x256 .f32) (x10 : Vec Ideal S256x1024 .bf16) (r : Fin 256) (l : Fin 1024) :
    k0_pay33 (F := Ideal) x1 (k0_pay29 x1) k0_pay30 x4 x10 (ix2 r l) = ∑ x, lat x1 x4 r x * x10 (ix2 x l) := by
  simp only [← lat_eq]
  pointwise [k0_pay33]

end Cert.Kernel5Ideal.Core
end
-- ==== Proof.PrepHost.lean ====
module
public import proofs.«01_k».proof.Defs
public import proofs.«01_k».proof.Proof.Gen.Kernel5Ideal.Value
public import proofs.«01_k».proof.Proof.PrepMath
public import Idealize.ShloMosaic.PureOps.Ideal
public import Idealize.ShloMosaic.Lib.Pointwise
import Idealize.ShloMosaic.Lib.Pipeline.ValueKit
import Idealize.ShloMosaic.Lib.Claim
import Idealize.ShloMosaic.Lib.StableHlo.Run
/-!
What the host code around the latent attention's preparation hands to the call: the rotary tables over 128 lanes, the
gains over 128 lanes, and the weights with every head padded to 128 lanes, entry by entry.
-/
set_option maxRecDepth 16384
@[expose] public section
noncomputable section
namespace Cert.Kernel5Ideal.Host
open Cert.Prep Cert.Kernel5Ideal Cert.Kernel5Ideal.Gen Idealize.ShloMosaic Idealize.ShloMosaic.TcCoe Idealize.SL.Sem
variable (m : (ℓ : Loc nD τ sig) → Buf (Elt Ideal) ℓ) (c : Dev nD)

/-- The rows' positions: the prompts' rows, then the samples'. -/
def places : IVec S16896 32 :=
  concatenate S16896 0 [⟨S16384, shapeCast S16384 (broadcastInDim S8x2048 ![0, 1] bcast_S1x2048_S8x2048_0_1 (shapeCast S1x2048 (iotaInDim S2048 32 0) shapeCasts_S2048_S1x2048)) shapeCasts_S8x2048_S16384⟩,
    ⟨S512, shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512⟩] concatenates_S16384_S512_S16896_d0

/-- The rows' angles. -/
def angles : FVec Ideal S16896x16 .f32 :=
  mulf (broadcastInDim S16896x16 ![0, 1] bcast_S16896x1_S16896x16_0_1 (broadcastInDim S16896x1 ![0] bcast_S16896_S16896x1_0 (sitofp .f32 places)))
    (broadcastInDim S16896x16 ![0, 1] bcast_S1x16_S16896x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- The table of cosines. -/
def cosines : FVec Ideal S16896x128 .f32 :=
  concatenate S16896x128 1 [⟨S16896x64, broadcastInDim S16896x64 ![] bcast_S_S16896x64 (constant S_ .f32 0x3F800000#32)⟩, ⟨S16896x16, Host.cos angles⟩, ⟨S16896x16, Host.cos angles⟩,
    ⟨S16896x32, broadcastInDim S16896x32 ![] bcast_S_S16896x32 (constant S_ .f32 0x3F800000#32)⟩] concatenates_S16896x64_S16896x16_S16896x16_S16896x32_S16896x128_d1

/-- The table of signed sines. -/
def sines : FVec Ideal S16896x128 .f32 :=
  concatenate S16896x128 1 [⟨S16896x64, broadcastInDim S16896x64 ![] bcast_S_S16896x64 (constant S_ .f32 0x00000000#32)⟩, ⟨S16896x16, Host.negf (Host.sin angles)⟩, ⟨S16896x16, Host.sin angles⟩,
    ⟨S16896x32, broadcastInDim S16896x32 ![] bcast_S_S16896x32 (constant S_ .f32 0x00000000#32)⟩] concatenates_S16896x64_S16896x16_S16896x16_S16896x32_S16896x128_d1

/-- The query weights, every head padded to 128 lanes. -/
def queryWeight (a : FVec Ideal S384x768 .f32) : FVec Ideal S384x1024 .bf16 :=
  truncf .bf16 (shapeCast S384x1024 (pad S384x8x128 ![0, 0, 0] ![0, 0, 32] ![0, 0, 0] (shapeCast S384x8x96 a shapeCasts_S384x768_S384x8x96) (sitofp .f32 (constantI S_ 32 0#32)) pads_S384x8x96_S384x8x128_000_000_0320 h_S_) shapeCasts_S384x8x128_S384x1024) bitsLt_bf16_f32

/-- The key weights, every head padded to 128 lanes. -/
def keyWeight (a : FVec Ideal S256x1024 .f32) : FVec Ideal S256x1024 .bf16 :=
  truncf .bf16 (shapeCast S256x1024 (pad S256x8x128 ![0, 0, 0] ![0, 0, 64] ![0, 0, 0]
    (shapeCast S256x8x64 (shapeCast S256x512 (extractStridedSlice S256x8x64 ![0, 0, 0] (shapeCast S256x8x128 a shapeCasts_S256x1024_S256x8x128) slices_S256x8x128_S256x8x64_0_0_0) shapeCasts_S256x8x64_S256x512) shapeCasts_S256x512_S256x8x64)
    (sitofp .f32 (constantI S_ 32 0#32)) pads_S256x8x64_S256x8x128_000_000_0640 h_S_) shapeCasts_S256x8x128_S256x1024) bitsLt_bf16_f32

/-- The value weights. -/
def valueWeight (a : FVec Ideal S256x1024 .f32) : FVec Ideal S256x512 .bf16 :=
  truncf .bf16 (shapeCast S256x512 (extractStridedSlice S256x8x64 ![0, 0, 64] (shapeCast S256x8x128 a shapeCasts_S256x1024_S256x8x128) slices_S256x8x128_S256x8x64_0_0_64) shapeCasts_S256x8x64_S256x512) bitsLt_bf16_f32

/-- The queries' gain over 128 lanes. -/
def queryGain (a5 a6 : FVec Ideal S64 .f32) (a7 : FVec Ideal S32 .f32) : FVec Ideal S1x128 .f32 :=
  broadcastInDim S1x128 ![1] bcast_S128_S1x128_1 (concatenate S128 0 [⟨S64, mulf (mulf a5 a6) (broadcastInDim S64 ![] bcast_S_S64 (constant S_ .f32 0x3DD105EC#32))⟩,
    ⟨S32, mulf a7 (broadcastInDim S32 ![] bcast_S_S32 (constant S_ .f32 0x3DD105EC#32))⟩, ⟨S32, broadcastInDim S32 ![] bcast_S_S32 (constant S_ .f32 0x00000000#32)⟩] concatenates_S64_S32_S32_S128_d0)

/-- The rotary key's gain over 128 lanes. -/
def keyGain (a8 : FVec Ideal S32 .f32) : FVec Ideal S1x128 .f32 :=
  broadcastInDim S1x128 ![1] bcast_S128_S1x128_1 (concatenate S128 0 [⟨S64, broadcastInDim S64 ![] bcast_S_S64 (constant S_ .f32 0x00000000#32)⟩,
    ⟨S32, a8⟩, ⟨S32, broadcastInDim S32 ![] bcast_S_S32 (constant S_ .f32 0x00000000#32)⟩] concatenates_S64_S32_S32_S128_d0)

set_option maxHeartbeats 1000000 in
theorem entry_cos : V m c main_v27 = cosines := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_sin : V m c main_v31 = sines := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_wq : V m c main_v35 = queryWeight (m (c.tc.loc main_arg3)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_wk : V m c main_v42 = keyWeight (m (c.tc.loc main_arg4)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_wv : V m c main_v45 = valueWeight (m (c.tc.loc main_arg4)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_gq : V m c main_v53 = queryGain (m (c.tc.loc main_arg5)) (m (c.tc.loc main_arg6)) (m (c.tc.loc main_arg7)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_gk : V m c main_v57 = keyGain (m (c.tc.loc main_arg8)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_gcq : V m c main_v58 = broadcastInDim S1x384 ![1] bcast_S384_S1x384_1 (m (c.tc.loc main_arg1)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 1000000 in
theorem entry_gckv : V m c main_v59 = broadcastInDim S1x256 ![1] bcast_S256_S1x256_1 (m (c.tc.loc main_arg2)) := by
  unfold V
  simp only [hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

theorem row384_at (a : FVec Ideal S384 .f32) (k : Fin 384) : broadcastInDim S1x384 ![1] bcast_S384_S1x384_1 a (ix2 0 k) = a (ix1 k) := by
  pointwise

theorem row256_at (a : FVec Ideal S256 .f32) (k : Fin 256) : broadcastInDim S1x256 ![1] bcast_S256_S1x256_1 a (ix2 0 k) = a (ix1 k) := by
  pointwise

theorem sitofp_zero : FloatOps.sitofp (F := Ideal) FTy.f32 0#32 = (0 : EReal) := by
  show (((0#32 : BitVec 32).toInt : ℝ) : EReal) = 0
  simp

set_option maxRecDepth 100000 in
theorem places_at (r : Fin 16896) : places (ix1 r) = place r := by
  generalize hp : place r = p
  pointwise [places]
  rw [← hp]
  rfl

theorem angles_at (r : Fin 16896) (j : Fin 16) : (angles (ix2 r j) : EReal) = angle r j := by
  generalize hp : angle r j = p
  pointwise [angles]
  rw [places_at, ← hp]
  rfl

theorem cosines_at (r : Fin 16896) (l : Fin 128) : (cosines (ix2 r l) : EReal) = cosLane (angle r) l := by
  generalize hp : cosLane (angle r) l = p
  pointwise [cosines]
  rw [← hp]
  unfold cosLane
  have hl := l.isLt
  split_ifs <;> first | rfl | omega | (simp only [angles_at, Nat.sub_sub]; split_ifs <;> first | rfl | omega)

theorem sines_at (r : Fin 16896) (l : Fin 128) : (sines (ix2 r l) : EReal) = sinLane (angle r) l := by
  generalize hp : sinLane (angle r) l = p
  pointwise [sines]
  rw [← hp]
  unfold sinLane
  have hl := l.isLt
  split_ifs <;> first | rfl | omega | (simp only [angles_at, Nat.sub_sub]; split_ifs <;> first | rfl | omega)

theorem queryWeight_at (a : FVec Ideal S384x768 .f32) (x : Fin 384) (h : Fin 8) (l : Fin 128) :
    queryWeight a (ix2 x ⟨h * 128 + l, by omega⟩) = padTo 96 (fun j => a (ix2 x ⟨h * 96 + j, by omega⟩)) l := by
  generalize hp : padTo 96 (fun j => a (ix2 x ⟨h * 96 + j, by omega⟩)) l = p
  pointwise [queryWeight]
  rw [← hp]
  unfold padTo
  have hl := l.isLt
  split_ifs <;> first | rfl | omega | (simp only [sitofp_zero])

theorem keyWeight_at (a : FVec Ideal S256x1024 .f32) (x : Fin 256) (h : Fin 8) (l : Fin 128) :
    keyWeight a (ix2 x ⟨h * 128 + l, by omega⟩) = padTo 64 (fun j => a (ix2 x ⟨h * 128 + j, by omega⟩)) l := by
  generalize hp : padTo 64 (fun j => a (ix2 x ⟨h * 128 + j, by omega⟩)) l = p
  pointwise [keyWeight]
  rw [← hp]
  unfold padTo
  have hl := l.isLt
  split_ifs <;> first | rfl | omega | (simp only [sitofp_zero])

theorem valueWeight_at (a : FVec Ideal S256x1024 .f32) (x : Fin 256) (l : Fin 512) :
    valueWeight a (ix2 x l) = a (ix2 x ⟨l.val / 64 * 128 + (64 + l.val % 64), by omega⟩) := by
  pointwise [valueWeight]

theorem queryGain_at (a5 a6 : FVec Ideal S64 .f32) (a7 : FVec Ideal S32 .f32) (l : Fin 128) :
    queryGain a5 a6 a7 (ix2 0 l) = gainLane (fun k => a5 (ix1 k)) (fun k => a6 (ix1 k)) (fun k => a7 (ix1 k)) l := by
  generalize hp : gainLane (fun k => a5 (ix1 k)) (fun k => a6 (ix1 k)) (fun k => a7 (ix1 k)) l = p
  pointwise [queryGain]
  rw [← hp]
  unfold gainLane
  have hl := l.isLt
  split_ifs <;> first | rfl | omega | (have hq : l.val - 64 < 32 := (by assumption); simp only [show l.val < 96 by omega, dite_true])

theorem keyGain_at (a8 : FVec Ideal S32 .f32) (l : Fin 128) : keyGain a8 (ix2 0 l) = middle (fun k => a8 (ix1 k)) l := by
  generalize hp : middle (fun k => a8 (ix1 k)) l = p
  pointwise [keyGain]
  rw [← hp]
  unfold middle
  have hl := l.isLt
  split_ifs <;> first | rfl | omega | (have hq : l.val - 64 < 32 := (by assumption); simp only [show 64 ≤ l.val ∧ l.val < 96 by omega, dite_true, true_and])

end Cert.Kernel5Ideal.Host
end
-- ==== Proof.PrepValue.lean ====
module
public import proofs.«01_k».proof.Defs
public import proofs.«01_k».proof.Proof.Gen.Kernel5Ideal.Value
public import proofs.«01_k».proof.Proof.PrepMath
public import proofs.«01_k».proof.Proof.PrepCore
public import proofs.«01_k».proof.Proof.PrepHost
public import Idealize.ShloMosaic.PureOps.Ideal
public import Idealize.ShloMosaic.Lib.Pointwise
import Idealize.ShloMosaic.Lib.Pipeline.ValueKit
import Idealize.ShloMosaic.Lib.Claim
/-!
The blocks of the latent attention's preparation read in its arguments, and with them every entry of its five results.
-/
set_option maxRecDepth 16384
@[expose] public section
noncomputable section
namespace Cert.Kernel5Ideal.Prep
open Cert.Prep Cert.Kernel5Ideal Cert.Kernel5Ideal.Gen Cert.Kernel5Ideal.Core Cert.Kernel5Ideal.Host Idealize.ShloMosaic Idealize.ShloMosaic.TcCoe Idealize.SL.Sem
variable (m : (ℓ : Loc nD τ sig) → Buf (Elt Ideal) ℓ) (c : Dev nD)

/-- Argument 0. -/
def arr0 (r : Fin 16896) (k : Fin 6656) : EReal := (m (c.tc.loc main_arg0) : FVec Ideal S16896x6656 .f32) (ix2 r k)
/-- Argument 1. -/
def arr1 (k : Fin 384) : EReal := (m (c.tc.loc main_arg1) : FVec Ideal S384 .f32) (ix1 k)
/-- Argument 2. -/
def arr2 (k : Fin 256) : EReal := (m (c.tc.loc main_arg2) : FVec Ideal S256 .f32) (ix1 k)
/-- Argument 3. -/
def arr3 (r : Fin 384) (k : Fin 768) : EReal := (m (c.tc.loc main_arg3) : FVec Ideal S384x768 .f32) (ix2 r k)
/-- Argument 4. -/
def arr4 (r : Fin 256) (k : Fin 1024) : EReal := (m (c.tc.loc main_arg4) : FVec Ideal S256x1024 .f32) (ix2 r k)
/-- Argument 5. -/
def arr5 (k : Fin 64) : EReal := (m (c.tc.loc main_arg5) : FVec Ideal S64 .f32) (ix1 k)
/-- Argument 6. -/
def arr6 (k : Fin 64) : EReal := (m (c.tc.loc main_arg6) : FVec Ideal S64 .f32) (ix1 k)
/-- Argument 7. -/
def arr7 (k : Fin 32) : EReal := (m (c.tc.loc main_arg7) : FVec Ideal S32 .f32) (ix1 k)
/-- Argument 8. -/
def arr8 (k : Fin 32) : EReal := (m (c.tc.loc main_arg8) : FVec Ideal S32 .f32) (ix1 k)

/-- The windows' blocks at every point. -/
theorem idx : ∀ t : Fin cfg0.N, win0_0.index t = ![t.val, 16] ∧ win0_1.index t = ![t.val, 11] ∧ win0_2.index t = ![t.val, 51] ∧ win0_7.index t = ![t.val, 0] ∧ win0_8.index t = ![t.val, 0]
    ∧ win0_12.index t = ![t.val, 0] ∧ win0_13.index t = ![t.val, 0] ∧ win0_14.index t = ![t.val, 0] ∧ win0_15.index t = ![t.val, 0] ∧ win0_16.index t = ![t.val, 0] ∧ win0_3.index t = ![0, 0] ∧ win0_4.index t = ![0, 0]
    ∧ win0_5.index t = ![0, 0] ∧ win0_6.index t = ![0, 0] ∧ win0_9.index t = ![0, 0] ∧ win0_10.index t = ![0, 0] ∧ win0_11.index t = ![0, 0] ∧ t.val < 66 :=
  (by decide +kernel : ∀ t : Fin grid0.N, _)

/-- The row of the arrays that row `r` of step `t`'s blocks is. -/
def row (t : Fin cfg0.N) (r : Fin 256) : Fin 16896 := ⟨t.val * 256 + r.val, by have : t.val < 66 := t.isLt; omega⟩

theorem block0 (t : Fin cfg0.N) (r : Fin 256) (k : Fin 384) : (X0_0 m c t : Vec Ideal S256x384 .f32) (ix2 r k) = arr0 m c (row t r) ⟨6144 + k, by omega⟩ := by
  unfold X0_0 Pipeline.Window.fill
  rw [dif_pos (moved0_0 t _)]
  unfold arr0 row
  blk_ext [iblk, V, idx t]

theorem block1 (t : Fin cfg0.N) (r : Fin 256) (k : Fin 256) : (iblk m c 1 t : Vec Ideal S256x256 .f32) (ix2 r k) = arr0 m c (row t r) ⟨2816 + k, by omega⟩ := by
  unfold arr0 row
  blk_ext [iblk, V, idx t]

theorem block2 (t : Fin cfg0.N) (r : Fin 256) (k : Fin 128) : (iblk m c 2 t : Vec Ideal S256x128 .f32) (ix2 r k) = arr0 m c (row t r) ⟨6528 + k, by omega⟩ := by
  unfold arr0 row
  blk_ext [iblk, V, idx t]

theorem block3 (t : Fin cfg0.N) (k : Fin 384) : (iblk m c 3 t : Vec Ideal S1x384 .f32) (ix2 0 k) = arr1 m c k := by
  refine Eq.trans ?_ (row384_at (m (c.tc.loc main_arg1)) k)
  blk_simp [iblk, entry_gcq]
  blk_ext [idx t]

theorem block4 (t : Fin cfg0.N) (k : Fin 256) : (iblk m c 4 t : Vec Ideal S1x256 .f32) (ix2 0 k) = arr2 m c k := by
  refine Eq.trans ?_ (row256_at (m (c.tc.loc main_arg2)) k)
  blk_simp [iblk, entry_gckv]
  blk_ext [idx t]

theorem block5 (t : Fin cfg0.N) (l : Fin 128) : (iblk m c 5 t : Vec Ideal S1x128 .f32) (ix2 0 l) = gainLane (arr5 m c) (arr6 m c) (arr7 m c) l := by
  refine Eq.trans ?_ (queryGain_at (m (c.tc.loc main_arg5)) (m (c.tc.loc main_arg6)) (m (c.tc.loc main_arg7)) l)
  blk_simp [iblk, entry_gq]
  blk_ext [idx t]

theorem block6 (t : Fin cfg0.N) (l : Fin 128) : (iblk m c 6 t : Vec Ideal S1x128 .f32) (ix2 0 l) = middle (arr8 m c) l := by
  refine Eq.trans ?_ (keyGain_at (m (c.tc.loc main_arg8)) l)
  blk_simp [iblk, entry_gk]
  blk_ext [idx t]

theorem block7 (t : Fin cfg0.N) (r : Fin 256) (l : Fin 128) : (iblk m c 7 t : Vec Ideal S256x128 .f32) (ix2 r l) = cosLane (angle (row t r)) l := by
  refine Eq.trans ?_ (cosines_at (row t r) l)
  have he := entry_cos m c
  generalize cosines = T at he ⊢
  unfold row
  blk_simp [iblk, he]
  blk_ext [idx t]

theorem block8 (t : Fin cfg0.N) (r : Fin 256) (l : Fin 128) : (iblk m c 8 t : Vec Ideal S256x128 .f32) (ix2 r l) = sinLane (angle (row t r)) l := by
  refine Eq.trans ?_ (sines_at (row t r) l)
  have he := entry_sin m c
  generalize sines = T at he ⊢
  unfold row
  blk_simp [iblk, he]
  blk_ext [idx t]

theorem block9 (t : Fin cfg0.N) (x : Fin 384) (h : Fin 8) (l : Fin 128) :
    (iblk m c 9 t : Vec Ideal S384x1024 .bf16) (ix2 x ⟨h * 128 + l, by omega⟩) = padTo 96 (fun j => arr3 m c x ⟨h * 96 + j, by omega⟩) l := by
  refine Eq.trans ?_ (queryWeight_at (m (c.tc.loc main_arg3)) x h l)
  blk_simp [iblk, entry_wq]
  blk_ext [idx t]

theorem block10 (t : Fin cfg0.N) (x : Fin 256) (h : Fin 8) (l : Fin 128) :
    (iblk m c 10 t : Vec Ideal S256x1024 .bf16) (ix2 x ⟨h * 128 + l, by omega⟩) = padTo 64 (fun j => arr4 m c x ⟨h * 128 + j, by omega⟩) l := by
  refine Eq.trans ?_ (keyWeight_at (m (c.tc.loc main_arg4)) x h l)
  blk_simp [iblk, entry_wk]
  blk_ext [idx t]

theorem block11 (t : Fin cfg0.N) (x : Fin 256) (l : Fin 512) :
    (iblk m c 11 t : Vec Ideal S256x512 .bf16) (ix2 x l) = arr4 m c x ⟨l.val / 64 * 128 + (64 + l.val % 64), by omega⟩ := by
  refine Eq.trans ?_ (valueWeight_at (m (c.tc.loc main_arg4)) x l)
  blk_simp [iblk, entry_wv]
  blk_ext [idx t]

/-- The columns around the rotary keys are zero, as the projection leaves them. -/
def Bare : Prop := ∀ r : Fin 16896, ∀ k : Fin 128, k.val < 64 ∨ 96 ≤ k.val → arr0 m c r ⟨6528 + k, by omega⟩ = 0

/-- What the rotary keys' block holds: the 32 lanes and zeros around. -/
theorem block2_middle (hx : Bare m c) (t : Fin cfg0.N) (r : Fin 256) (k : Fin 128) :
    (iblk m c 2 t : Vec Ideal S256x128 .f32) (ix2 r k) = middle (fun j => arr0 m c (row t r) ⟨6592 + j, by omega⟩) k := by
  rw [block2]
  by_cases h : 64 ≤ k.val ∧ k.val < 96
  · refine Eq.trans ?_ (dif_pos h).symm
    refine congrArg (arr0 m c (row t r)) (Fin.ext ?_)
    show 6528 + k.val = 6592 + (k.val - 64)
    omega
  · refine Eq.trans ?_ (dif_neg h).symm
    exact hx _ k (by omega)

theorem lat_at (t : Fin cfg0.N) (r : Fin 256) (l : Fin 256) : lat (iblk m c 1 t) (iblk m c 4 t) r l = latent (arr0 m c (row t r)) (arr2 m c) l := by
  unfold lat latent
  simp only [block1, block4]

theorem rot_at (hx : Bare m c) (t : Fin cfg0.N) (r : Fin 256) (l : Fin 128) :
    rot (iblk m c 2 t) (iblk m c 6 t) (iblk m c 7 t) (iblk m c 8 t) r l = middle (rotAt (arr0 m c) (arr8 m c) (row t r)) l := by
  unfold rot
  simp only [block2_middle m c hx, block6, block7, block8]
  exact keyLane_eq _ _ _ _

theorem result13 (t : Fin cfg0.N) (r : Fin 256) (l : Fin 256) : out13 ((outsAt0 m c t).2.1) r l = latent (arr0 m c (row t r)) (arr2 m c) l :=
  (core13 m c t r l).trans (lat_at m c t r l)

theorem result14 (hx : Bare m c) (t : Fin cfg0.N) (r : Fin 256) (l : Fin 32) : out14 ((outsAt0 m c t).2.2.1) r l = rotAt (arr0 m c) (arr8 m c) (row t r) l :=
  (core14 m c t r l).trans ((rot_at m c hx t r _).trans (middle_at _ l _))

theorem result16 (t : Fin cfg0.N) (r : Fin 256) (l : Fin 512) : out16 ((outsAt0 m c t).2.2.2.2) r l = vAt (arr0 m c) (arr2 m c) (arr4 m c) (row t r) l := by
  rw [core16]
  simp only [lat_at, block11]
  rfl

theorem result15 (hx : Bare m c) (t : Fin cfg0.N) (r : Fin 256) (l : Fin 1024) :
    out15 ((outsAt0 m c t).2.2.2.1) r l = kAt (arr0 m c) (arr2 m c) (arr4 m c) (arr8 m c) (row t r) l := by
  rw [core15]
  unfold keyAt
  simp only [key_up, lat_at, rot_eq, rot_at m c hx, block10 m c t _ ⟨l.val / 128, by omega⟩, sum_mul_padTo]
  exact keyHead_eq _ _ _

theorem result12 (t : Fin cfg0.N) (r : Fin 256) (l : Fin 1024) :
    out12 ((outsAt0 m c t).1) r l = qAt (arr0 m c) (arr1 m c) (arr3 m c) (arr5 m c) (arr6 m c) (arr7 m c) (row t r) l := by
  rw [core12]
  unfold head
  simp only [query_up, block0, block3, block5, block7, block8, block9 m c t _ ⟨l.val / 128, by omega⟩, sum_mul_padTo]
  exact turned_query _ _ _ _ _ _

/-- Every entry of result 1. -/
theorem final12 : (dats m 0 c).arrAt 12 (cfgs 0).N = fun y => qAt (arr0 m c) (arr1 m c) (arr3 m c) (arr5 m c) (arr6 m c) (arr7 m c) (y 0) (y 1) := by
  refine (dats m 0 c).arrAt_eq_of_covers 12 _ (by decide +kernel) fun t _ y => ?_
  blk_simp
  rw [after0_12]
  idx_vars y
  refine (result12 m c t y0 y1).trans (congrArg₂ (qAt (arr0 m c) (arr1 m c) (arr3 m c) (arr5 m c) (arr6 m c) (arr7 m c)) (Fin.ext (by unfold row; blk_simp [idx t])) (Fin.ext (by blk_simp [idx t])))

/-- Every entry of result 2. -/
theorem final13 : (dats m 0 c).arrAt 13 (cfgs 0).N = fun y => (fun r => latent (arr0 m c r) (arr2 m c)) (y 0) (y 1) := by
  refine (dats m 0 c).arrAt_eq_of_covers 13 _ (by decide +kernel) fun t _ y => ?_
  blk_simp
  rw [after0_13]
  idx_vars y
  refine (result13 m c t y0 y1).trans (congrArg₂ ((fun r => latent (arr0 m c r) (arr2 m c))) (Fin.ext (by unfold row; blk_simp [idx t])) (Fin.ext (by blk_simp [idx t])))

/-- Every entry of result 3. -/
theorem final14 (hx : Bare m c) : (dats m 0 c).arrAt 14 (cfgs 0).N = fun y => rotAt (arr0 m c) (arr8 m c) (y 0) (y 1) := by
  refine (dats m 0 c).arrAt_eq_of_covers 14 _ (by decide +kernel) fun t _ y => ?_
  blk_simp
  rw [after0_14]
  idx_vars y
  refine (result14 m c hx t y0 y1).trans (congrArg₂ (rotAt (arr0 m c) (arr8 m c)) (Fin.ext (by unfold row; blk_simp [idx t])) (Fin.ext (by blk_simp [idx t])))

/-- Every entry of result 4. -/
theorem final15 (hx : Bare m c) : (dats m 0 c).arrAt 15 (cfgs 0).N = fun y => kAt (arr0 m c) (arr2 m c) (arr4 m c) (arr8 m c) (y 0) (y 1) := by
  refine (dats m 0 c).arrAt_eq_of_covers 15 _ (by decide +kernel) fun t _ y => ?_
  blk_simp
  rw [after0_15]
  idx_vars y
  refine (result15 m c hx t y0 y1).trans (congrArg₂ (kAt (arr0 m c) (arr2 m c) (arr4 m c) (arr8 m c)) (Fin.ext (by unfold row; blk_simp [idx t])) (Fin.ext (by blk_simp [idx t])))

/-- Every entry of result 5. -/
theorem final16 : (dats m 0 c).arrAt 16 (cfgs 0).N = fun y => vAt (arr0 m c) (arr2 m c) (arr4 m c) (y 0) (y 1) := by
  refine (dats m 0 c).arrAt_eq_of_covers 16 _ (by decide +kernel) fun t _ y => ?_
  blk_simp
  rw [after0_16]
  idx_vars y
  refine (result16 m c t y0 y1).trans (congrArg₂ (vAt (arr0 m c) (arr2 m c) (arr4 m c)) (Fin.ext (by unfold row; blk_simp [idx t])) (Fin.ext (by blk_simp [idx t])))

end Cert.Kernel5Ideal.Prep
end
-- ==== Proof.PrepRef.lean ====
module
public import proofs.«01_k».proof.Defs
public import proofs.«01_k».proof.Proof.Gen.Reference5Ideal.Run
public import proofs.«01_k».proof.Proof.PrepMath
public import Idealize.ShloMosaic.PureOps.Ideal
public import Idealize.ShloMosaic.Lib.Pointwise
/-!
The reference's values for the latent attention's preparation, entry by entry.
-/
set_option maxRecDepth 16384
@[expose] public section
noncomputable section
namespace Cert.Reference5Ideal.Prep
open Cert.Prep Cert.Reference5Ideal Cert.Reference5Ideal.Gen Cert.Reference5Ideal.Value Idealize.ShloMosaic Idealize.ShloMosaic.TcCoe Idealize.SL.Sem Idealize.ShloMosaic.StableHlo
variable (V0 : Valuation τ sig (Elt Ideal))

/-- Argument 0. -/
def arr0 (r : Fin 16896) (k : Fin 6656) : EReal := (V0 (Proc.devRef .tc main_arg0) : FVec Ideal S16896x6656 .f32) (ix2 r k)
/-- Argument 1. -/
def arr1 (k : Fin 384) : EReal := (V0 (Proc.devRef .tc main_arg1) : FVec Ideal S384 .f32) (ix1 k)
/-- Argument 2. -/
def arr2 (k : Fin 256) : EReal := (V0 (Proc.devRef .tc main_arg2) : FVec Ideal S256 .f32) (ix1 k)
/-- Argument 3. -/
def arr3 (r : Fin 384) (k : Fin 768) : EReal := (V0 (Proc.devRef .tc main_arg3) : FVec Ideal S384x768 .f32) (ix2 r k)
/-- Argument 4. -/
def arr4 (r : Fin 256) (k : Fin 1024) : EReal := (V0 (Proc.devRef .tc main_arg4) : FVec Ideal S256x1024 .f32) (ix2 r k)
/-- Argument 5. -/
def arr5 (k : Fin 64) : EReal := (V0 (Proc.devRef .tc main_arg5) : FVec Ideal S64 .f32) (ix1 k)
/-- Argument 6. -/
def arr6 (k : Fin 64) : EReal := (V0 (Proc.devRef .tc main_arg6) : FVec Ideal S64 .f32) (ix1 k)
/-- Argument 7. -/
def arr7 (k : Fin 32) : EReal := (V0 (Proc.devRef .tc main_arg7) : FVec Ideal S32 .f32) (ix1 k)
/-- Argument 8. -/
def arr8 (k : Fin 32) : EReal := (V0 (Proc.devRef .tc main_arg8) : FVec Ideal S32 .f32) (ix1 k)

set_option maxRecDepth 100000 in
theorem places_at (r : Fin 16896) : (res_main_v10 V0 : IVec S16896 32) (ix1 r) = place r := by
  generalize hp : place r = p
  pointwise [res_main_v10, fn_main_v10]
  rw [← hp]
  rfl

theorem v133_at (r : Fin 16896) (j : Fin 16) : (res_main_v133 V0 : FVec Ideal S16896x16 .f32) (ix2 r j) = angle r j := by
  generalize hp : angle r j = p
  pointwise [res_main_v133]
  rw [places_at, ← hp]
  rfl

theorem v74_at (r : Fin 16896) (j : Fin 16) : (res_main_v74 V0 : FVec Ideal S16896x16 .f32) (ix2 r j) = angle r j := by
  generalize hp : angle r j = p
  pointwise [res_main_v74]
  rw [places_at, ← hp]
  rfl

theorem v28_at (r : Fin 16896) (h : Fin 8) (j : Fin 96) :
    (res_main_v28 V0 : FVec Ideal S16896x8x96 .f32) (ix3 r h j) = queryCol (arr0 V0 r) (arr1 V0) (arr3 V0) h j := by
  generalize hp : queryCol (arr0 V0 r) (arr1 V0) (arr3 V0) h j = p
  pointwise [res_main_v28, res_main_v12]
  rw [← hp]
  rfl

theorem v148_at (r : Fin 16896) (h : Fin 8) (j : Fin 128) :
    (res_main_v148 V0 : FVec Ideal S16896x8x128 .f32) (ix3 r h j) = upCol (arr0 V0 r) (arr2 V0) (arr4 V0) ⟨h * 128 + j, by omega⟩ := by
  generalize hp : upCol (arr0 V0 r) (arr2 V0) (arr4 V0) ⟨h * 128 + j, by omega⟩ = p
  pointwise [res_main_v148, res_main_v11]
  rw [← hp]
  rfl

theorem v146_at (r : Fin 16896) (z : Fin 1) (j : Fin 32) :
    (res_main_v146 V0 : FVec Ideal S16896x1x32 .f32) (ix3 r z j) = rotAt (arr0 V0) (arr8 V0) r j := by
  generalize hp : rotAt (arr0 V0) (arr8 V0) r j = p
  pointwise [res_main_v146, res_main_v138, res_main_v139, res_main_v135, res_main_v137, v133_at, res_main_v121, res_main_v13]
  rw [← hp]
  unfold rotAt rotary
  by_cases h : j.val < 16
  · refine (dif_pos h).trans (Eq.trans ?_ (dif_pos h).symm)
    rfl
  · refine (dif_neg h).trans (Eq.trans ?_ (dif_neg h).symm)
    have e : 16 + (j.val - 16) = j.val := by omega
    simp only [e]
    rfl

/-- The q result's term. -/
def qRes : FVec Ideal S16896x1024 .bf16 :=
  truncf .bf16 (shapeCast S16896x1024 ((concatenate S16896x8x128 2 [⟨S16896x8x64, ((mulf (mulf (mulf (res_main_v30 V0) (broadcastInDim S16896x8x64 ![0, 1, 2] bcast_S16896x8x1_S16896x8x64_0_1_2 (Host.rsqrt (addf (Host.divf (broadcastInDim S16896x8x1 ![0, 1] bcast_S16896x8_S16896x8x1_0_1 (Host.reduceAdd (mulf (res_main_v30 V0) (res_main_v30 V0)) (constant S_ .f32 0x00000000#32) reducesTo_S16896x8x64_S16896x8_d2 h_S_)) (broadcastInDim S16896x8x1 ![] bcast_S_S16896x8x1 (constant S_ .f32 0x42800000#32))) (broadcastInDim S16896x8x1 ![] bcast_S_S16896x8x1 (constant S_ .f32 0x358637BD#32)))))) (broadcastInDim S16896x8x64 ![0, 1, 2] bcast_S1x1x64_S16896x8x64_0_1_2 (broadcastInDim S1x1x64 ![2] bcast_S64_S1x1x64_2 (V0 (Proc.devRef .tc main_arg5))))) (broadcastInDim S16896x8x64 ![0, 1, 2] bcast_S1x1x64_S16896x8x64_0_1_2 (broadcastInDim S1x1x64 ![2] bcast_S64_S1x1x64_2 (mulf (V0 (Proc.devRef .tc main_arg6)) (broadcastInDim S64 ![] bcast_S_S64 (constant S_ .f32 0x3DD105EC#32)))))) : (⟨S16896x8x64, .f32⟩ : BufTy).Contents (Elt Ideal))⟩, ⟨S16896x8x32, ((mulf (concatenate S16896x8x32 2 [⟨S16896x8x16, (subf (mulf (res_main_v79 V0) (broadcastInDim S16896x8x16 ![0, 1, 2] bcast_S16896x1x16_S16896x8x16_0_1_2 (res_main_v76 V0))) (mulf (res_main_v80 V0) (broadcastInDim S16896x8x16 ![0, 1, 2] bcast_S16896x1x16_S16896x8x16_0_1_2 (res_main_v78 V0))))⟩, ⟨S16896x8x16, (addf (mulf (res_main_v80 V0) (broadcastInDim S16896x8x16 ![0, 1, 2] bcast_S16896x1x16_S16896x8x16_0_1_2 (res_main_v76 V0))) (mulf (res_main_v79 V0) (broadcastInDim S16896x8x16 ![0, 1, 2] bcast_S16896x1x16_S16896x8x16_0_1_2 (res_main_v78 V0))))⟩] concatenates_S16896x8x16_S16896x8x16_S16896x8x32_d2) (broadcastInDim S16896x8x32 ![] bcast_S_S16896x8x32 (constant S_ .f32 0x3DD105EC#32))) : (⟨S16896x8x32, .f32⟩ : BufTy).Contents (Elt Ideal))⟩, ⟨S16896x8x32, ((res_main_v29 V0) : (⟨S16896x8x32, .f32⟩ : BufTy).Contents (Elt Ideal))⟩] concatenates_S16896x8x64_S16896x8x32_S16896x8x32_S16896x8x128_d2 : (⟨S16896x8x128, .f32⟩ : BufTy).Contents (Elt Ideal))) shapeCasts_S16896x8x128_S16896x1024) bitsLt_bf16_f32

/-- The latent result's term. -/
def latentRes : FVec Ideal S16896x256 .f32 :=
  mulf (mulf (res_main_v11 V0) (broadcastInDim S16896x256 ![0, 1] bcast_S16896x1_S16896x256_0_1 (Host.rsqrt (addf (Host.divf (broadcastInDim S16896x1 ![0] bcast_S16896_S16896x1_0 (Host.reduceAdd (mulf (res_main_v11 V0) (res_main_v11 V0)) (constant S_ .f32 0x00000000#32) reducesTo_S16896x256_S16896_d1 h_S_)) (broadcastInDim S16896x1 ![] bcast_S_S16896x1 (constant S_ .f32 0x43800000#32))) (broadcastInDim S16896x1 ![] bcast_S_S16896x1 (constant S_ .f32 0x358637BD#32)))))) (broadcastInDim S16896x256 ![0, 1] bcast_S1x256_S16896x256_0_1 (broadcastInDim S1x256 ![1] bcast_S256_S1x256_1 (V0 (Proc.devRef .tc main_arg2))))

/-- The rotary result's term. -/
def rotaryRes : FVec Ideal S16896x32 .f32 :=
  shapeCast S16896x32 (res_main_v146 V0) shapeCasts_S16896x1x32_S16896x32

/-- The key result's term. -/
def keyRes : FVec Ideal S16896x1024 .bf16 :=
  truncf .bf16 (shapeCast S16896x1024 ((concatenate S16896x8x128 2 [⟨S16896x8x64, ((mulf (mulf (res_main_v149 V0) (broadcastInDim S16896x8x64 ![0, 1, 2] bcast_S16896x8x1_S16896x8x64_0_1_2 (Host.rsqrt (addf (Host.divf (broadcastInDim S16896x8x1 ![0, 1] bcast_S16896x8_S16896x8x1_0_1 (Host.reduceAdd (mulf (res_main_v149 V0) (res_main_v149 V0)) (constant S_ .f32 0x00000000#32) reducesTo_S16896x8x64_S16896x8_d2 h_S_)) (broadcastInDim S16896x8x1 ![] bcast_S_S16896x8x1 (constant S_ .f32 0x42800000#32))) (broadcastInDim S16896x8x1 ![] bcast_S_S16896x8x1 (constant S_ .f32 0x358637BD#32)))))) (broadcastInDim S16896x8x64 ![] bcast_S_S16896x8x64 (constant S_ .f32 0x3F800000#32))) : (⟨S16896x8x64, .f32⟩ : BufTy).Contents (Elt Ideal))⟩, ⟨S16896x8x32, ((broadcastInDim S16896x8x32 ![0, 1, 2] bcast_S16896x1x32_S16896x8x32_0_1_2 (res_main_v146 V0)) : (⟨S16896x8x32, .f32⟩ : BufTy).Contents (Elt Ideal))⟩, ⟨S16896x8x32, ((res_main_v29 V0) : (⟨S16896x8x32, .f32⟩ : BufTy).Contents (Elt Ideal))⟩] concatenates_S16896x8x64_S16896x8x32_S16896x8x32_S16896x8x128_d2 : (⟨S16896x8x128, .f32⟩ : BufTy).Contents (Elt Ideal))) shapeCasts_S16896x8x128_S16896x1024) bitsLt_bf16_f32

/-- The value result's term. -/
def valueRes : FVec Ideal S16896x512 .bf16 :=
  truncf .bf16 (shapeCast S16896x512 (extractStridedSlice S16896x8x64 ![0, 0, 64] (res_main_v148 V0) slices_S16896x8x128_S16896x8x64_0_0_64) shapeCasts_S16896x8x64_S16896x512) bitsLt_bf16_f32

theorem latentRes_at (r : Fin 16896) (l : Fin 256) : latentRes V0 (ix2 r l) = latent (arr0 V0 r) (arr2 V0) l := by
  generalize hp : latent (arr0 V0 r) (arr2 V0) l = p
  pointwise [latentRes, res_main_v11]
  rw [← hp]
  rfl

theorem rotaryRes_at (r : Fin 16896) (l : Fin 32) : rotaryRes V0 (ix2 r l) = rotAt (arr0 V0) (arr8 V0) r l := by
  generalize hp : rotAt (arr0 V0) (arr8 V0) r l = p
  pointwise [rotaryRes, v146_at]
  exact hp

theorem valueRes_at (r : Fin 16896) (l : Fin 512) : valueRes V0 (ix2 r l) = vAt (arr0 V0) (arr2 V0) (arr4 V0) r l := by
  generalize hp : vAt (arr0 V0) (arr2 V0) (arr4 V0) r l = p
  pointwise [valueRes, v148_at]
  rw [← hp]
  rfl

theorem keyRes_at (r : Fin 16896) (l : Fin 1024) : keyRes V0 (ix2 r l) = kAt (arr0 V0) (arr2 V0) (arr4 V0) (arr8 V0) r l := by
  generalize hp : kAt (arr0 V0) (arr2 V0) (arr4 V0) (arr8 V0) r l = p
  pointwise [keyRes, res_main_v149, v148_at, v146_at, res_main_v29]
  rw [← hp]
  unfold kAt
  by_cases h0 : l.val % 128 < 64
  · refine (dif_pos h0).trans (Eq.trans ?_ (dif_pos h0).symm)
    rfl
  · refine (dif_neg h0).trans (Eq.trans ?_ (dif_neg h0).symm)
    by_cases h1 : l.val % 128 - 64 < 32
    · have h96 : l.val % 128 < 96 := by omega
      refine (dif_pos h1).trans (Eq.trans ?_ (dif_pos h96).symm)
      rfl
    · have h96 : ¬ l.val % 128 < 96 := by omega
      refine (dif_neg h1).trans (Eq.trans ?_ (dif_neg h96).symm)
      rfl

theorem v62_at (r : Fin 16896) (h : Fin 8) (j : Fin 32) : (res_main_v62 V0 : FVec Ideal S16896x8x32 .f32) (ix3 r h j)
    = queryCol (arr0 V0 r) (arr1 V0) (arr3 V0) h ⟨64 + j, by omega⟩ * root32 (fun k => queryCol (arr0 V0 r) (arr1 V0) (arr3 V0) h ⟨64 + k, by omega⟩) * arr7 V0 j := by
  generalize hp : queryCol (arr0 V0 r) (arr1 V0) (arr3 V0) h ⟨64 + j, by omega⟩ * root32 (fun k => queryCol (arr0 V0 r) (arr1 V0) (arr3 V0) h ⟨64 + k, by omega⟩) * arr7 V0 j = p
  pointwise [res_main_v62, res_main_v49, v28_at]
  rw [← hp]
  rfl

theorem qRes_at (r : Fin 16896) (l : Fin 1024) : qRes V0 (ix2 r l) = qAt (arr0 V0) (arr1 V0) (arr3 V0) (arr5 V0) (arr6 V0) (arr7 V0) r l := by
  generalize hp : qAt (arr0 V0) (arr1 V0) (arr3 V0) (arr5 V0) (arr6 V0) (arr7 V0) r l = p
  pointwise [qRes, res_main_v30, v28_at, res_main_v79, res_main_v80, res_main_v76, res_main_v78, v74_at, v62_at, res_main_v29]
  have hq : ∀ z : Fin 128, z.val = l.val % 128 → p = query (queryCol (arr0 V0 r) (arr1 V0) (arr3 V0) ⟨l / 128, by omega⟩) (arr5 V0) (arr6 V0) (arr7 V0) (angle r) z := by
    intro z hz
    rw [← hp, show z = ⟨l.val % 128, Nat.mod_lt _ (by norm_num)⟩ from Fin.ext hz]
    rfl
  by_cases h0 : l.val % 128 < 64
  · refine (dif_pos h0).trans ?_
    refine Eq.trans ?_ ((hq ⟨l.val % 128, by omega⟩ rfl).trans (dif_pos h0)).symm
    rfl
  · refine (dif_neg h0).trans ?_
    by_cases h1 : l.val % 128 - 64 < 32
    · have h96 : l.val % 128 < 96 := by omega
      refine (dif_pos h1).trans ?_
      refine Eq.trans ?_ ((hq ⟨l.val % 128, by omega⟩ rfl).trans ((dif_neg h0).trans (dif_pos h96))).symm
      refine congrArg (· * scale) ?_
      by_cases h2 : l.val % 128 - 64 < 16
      · refine (dif_pos h2).trans (Eq.trans ?_ (dif_pos h2).symm)
        rfl
      · refine (dif_neg h2).trans (Eq.trans ?_ (dif_neg h2).symm)
        simp only [show 16 + (l.val % 128 - 64 - 16) = l.val % 128 - 64 by omega]
    · have h96 : ¬ l.val % 128 < 96 := by omega
      exact (dif_neg h1).trans ((hq ⟨l.val % 128, by omega⟩ rfl).trans ((dif_neg h0).trans (dif_neg h96))).symm

/-- The run's results, by name. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v165) = qRes (launchContents m c)
      ∧ r.2.mem ((c.tc : Thread nD τ).loc main_v107) = latentRes (launchContents m c)
      ∧ r.2.mem ((c.tc : Thread nD τ).loc main_v166) = rotaryRes (launchContents m c)
      ∧ r.2.mem ((c.tc : Thread nD τ).loc main_v168) = keyRes (launchContents m c)
      ∧ r.2.mem ((c.tc : Thread nD τ).loc main_v171) = valueRes (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1, (h c).2.1, (h c).2.2.1, (h c).2.2.2.1, (h c).2.2.2.2.1, (h c).2.2.2.2.2⟩) (run m ρ)

end Cert.Reference5Ideal.Prep
end
-- ==== Proof.PrepClaim.lean ====
module
public import proofs.«01_k».proof.Defs
public import proofs.«01_k».proof.Proof.Gen.Pre_pre_prep
public import proofs.«01_k».proof.Proof.PrepValue
public import proofs.«01_k».proof.Proof.PrepRef
import Idealize.ShloMosaic.Lib.ReduceAll
import Idealize.ShloMosaic.Lib.Pointwise
import Idealize.ShloMosaic.Lib.Pipeline.ValueKit
import Idealize.ShloMosaic.Lib.Claim
/-!
The latent attention's preparation: its precondition read, and the kernel's five results equal the reference's.
-/
set_option maxRecDepth 16384
@[expose] public section
noncomputable section
namespace Cert.Pre_pre_prep.Prep
open Cert.Pre_pre_prep Idealize.ShloMosaic

instance : Subsingleton S_.Idx := ⟨fun a b => funext fun k => k.elim0⟩

/-- A number that compares equal to zero is zero. -/
theorem zero_of_oeq {y : EReal} (h : Ideal.cmp .oeq y 0 = 1#1) : y = 0 := by
  by_contra hn
  rw [show Ideal.cmp .oeq y 0 = BitVec.ofBool (decide (y = 0)) from rfl, decide_eq_false hn] at h
  exact absurd h (by decide)

/-- The precondition: the lanes around the rotary keys are zero. -/
theorem bare_of_pre (x : FVec Ideal S16896x6656 .f32) (a1 a2 a3 a4 a5 a6 a7 a8) (h : fn (F := Ideal) x a1 a2 a3 a4 a5 a6 a7 a8 = fun _ => 1#1)
    (r : Fin 16896) (k : Fin 128) (hk : k.val < 64 ∨ 96 ≤ k.val) : x (ix2 r ⟨6528 + k, by omega⟩) = (0 : EReal) := by
  have h0 := congrFun h (fun k => k.elim0)
  have hand : ∀ a b : BitVec 1, IntOp.andi a b = 1#1 → a = 1#1 ∧ b = 1#1 := by decide
  obtain ⟨ha, hb⟩ := hand _ _ (show IntOp.andi _ _ = 1#1 from h0)
  rcases hk with hk | hk
  · have := Host.reduce_andi_all _ _ _ _ _ ha (ix2 r (⟨k, hk⟩ : Fin 64))
    pointwise at this
    exact zero_of_oeq this
  · have := Host.reduce_andi_all _ _ _ _ _ hb (ix2 r (⟨k.val - 96, by omega⟩ : Fin 32))
    pointwise at this
    have e : 6624 + (k.val - 96) = 6528 + k.val := by omega
    simp only [e] at this
    exact zero_of_oeq this
end Cert.Pre_pre_prep.Prep

namespace Cert.Proof
open Idealize.ShloMosaic Idealize.SL.Sem Idealize.ShloMosaic.StableHlo

set_option maxHeartbeats 1600000 in
/-- The preparation's five results are the reference's, element by element. -/
theorem algebraic_prep : Cert.algebraic_Kernel5Ideal_Reference5Ideal_pre_pre_prep := by
  intro m g m' g' hpre hagree
  have hx : ∀ c, Cert.Kernel5Ideal.Prep.Bare m c := fun c => Cert.Pre_pre_prep.Prep.bare_of_pre _ _ _ _ _ _ _ _ _ (hpre c)
  refine ⟨fun c => (Cert.Kernel5Ideal.Gen.dats m 0 c).arrAt 12 (Cert.Kernel5Ideal.cfgs 0).N, fun c => (Cert.Kernel5Ideal.Gen.dats m 0 c).arrAt 13 (Cert.Kernel5Ideal.cfgs 0).N,
    fun c => (Cert.Kernel5Ideal.Gen.dats m 0 c).arrAt 14 (Cert.Kernel5Ideal.cfgs 0).N, fun c => (Cert.Kernel5Ideal.Gen.dats m 0 c).arrAt 15 (Cert.Kernel5Ideal.cfgs 0).N,
    fun c => (Cert.Kernel5Ideal.Gen.dats m 0 c).arrAt 16 (Cert.Kernel5Ideal.cfgs 0).N, ?_, ?_⟩
  · refine θ_run_mono (θ_run_and (Cert.Kernel5Ideal.Gen.run_main m g) (Cert.Kernel5Ideal.Gen.unchanged m g)) ?_
    intro r hr c
    exact ⟨(hr.1 c).1 12, (hr.1 c).1 13, (hr.1 c).1 14, (hr.1 c).1 15, (hr.1 c).1 16, hr.2 c⟩
  · refine θ_run_mono (Cert.Reference5Ideal.Prep.results m' g') ?_
    intro r hr c
    obtain ⟨r0, r1, r2, r3, r4, hrest⟩ := hr c
    obtain ⟨h0, h1, h2, h3, h4, h5, h6, h7, h8⟩ := hagree c
    have e0 : Cert.Reference5Ideal.Prep.arr0 (launchContents m' c) = Cert.Kernel5Ideal.Prep.arr0 m c := funext fun _ => funext fun _ => congrFun h0 _
    have e1 : Cert.Reference5Ideal.Prep.arr1 (launchContents m' c) = Cert.Kernel5Ideal.Prep.arr1 m c := funext fun _ => congrFun h1 _
    have e2 : Cert.Reference5Ideal.Prep.arr2 (launchContents m' c) = Cert.Kernel5Ideal.Prep.arr2 m c := funext fun _ => congrFun h2 _
    have e3 : Cert.Reference5Ideal.Prep.arr3 (launchContents m' c) = Cert.Kernel5Ideal.Prep.arr3 m c := funext fun _ => funext fun _ => congrFun h3 _
    have e4 : Cert.Reference5Ideal.Prep.arr4 (launchContents m' c) = Cert.Kernel5Ideal.Prep.arr4 m c := funext fun _ => funext fun _ => congrFun h4 _
    have e5 : Cert.Reference5Ideal.Prep.arr5 (launchContents m' c) = Cert.Kernel5Ideal.Prep.arr5 m c := funext fun _ => congrFun h5 _
    have e6 : Cert.Reference5Ideal.Prep.arr6 (launchContents m' c) = Cert.Kernel5Ideal.Prep.arr6 m c := funext fun _ => congrFun h6 _
    have e7 : Cert.Reference5Ideal.Prep.arr7 (launchContents m' c) = Cert.Kernel5Ideal.Prep.arr7 m c := funext fun _ => congrFun h7 _
    have e8 : Cert.Reference5Ideal.Prep.arr8 (launchContents m' c) = Cert.Kernel5Ideal.Prep.arr8 m c := funext fun _ => congrFun h8 _
    have q0 : Cert.Reference5Ideal.Prep.qRes (launchContents m' c) = fun y => Cert.Prep.qAt (Cert.Kernel5Ideal.Prep.arr0 m c) (Cert.Kernel5Ideal.Prep.arr1 m c) (Cert.Kernel5Ideal.Prep.arr3 m c) (Cert.Kernel5Ideal.Prep.arr5 m c) (Cert.Kernel5Ideal.Prep.arr6 m c) (Cert.Kernel5Ideal.Prep.arr7 m c) (y 0) (y 1) := by
      funext y
      idx_vars y
      refine (Cert.Reference5Ideal.Prep.qRes_at (launchContents m' c) y0 y1).trans ?_
      rw [e0, e1, e3, e5, e6, e7]
    have q1 : Cert.Reference5Ideal.Prep.latentRes (launchContents m' c) = fun y => (fun r => Cert.Prep.latent (Cert.Kernel5Ideal.Prep.arr0 m c r) (Cert.Kernel5Ideal.Prep.arr2 m c)) (y 0) (y 1) := by
      funext y
      idx_vars y
      refine (Cert.Reference5Ideal.Prep.latentRes_at (launchContents m' c) y0 y1).trans ?_
      rw [e0, e2]
    have q2 : Cert.Reference5Ideal.Prep.rotaryRes (launchContents m' c) = fun y => Cert.Prep.rotAt (Cert.Kernel5Ideal.Prep.arr0 m c) (Cert.Kernel5Ideal.Prep.arr8 m c) (y 0) (y 1) := by
      funext y
      idx_vars y
      refine (Cert.Reference5Ideal.Prep.rotaryRes_at (launchContents m' c) y0 y1).trans ?_
      rw [e0, e8]
    have q3 : Cert.Reference5Ideal.Prep.keyRes (launchContents m' c) = fun y => Cert.Prep.kAt (Cert.Kernel5Ideal.Prep.arr0 m c) (Cert.Kernel5Ideal.Prep.arr2 m c) (Cert.Kernel5Ideal.Prep.arr4 m c) (Cert.Kernel5Ideal.Prep.arr8 m c) (y 0) (y 1) := by
      funext y
      idx_vars y
      refine (Cert.Reference5Ideal.Prep.keyRes_at (launchContents m' c) y0 y1).trans ?_
      rw [e0, e2, e4, e8]
    have q4 : Cert.Reference5Ideal.Prep.valueRes (launchContents m' c) = fun y => Cert.Prep.vAt (Cert.Kernel5Ideal.Prep.arr0 m c) (Cert.Kernel5Ideal.Prep.arr2 m c) (Cert.Kernel5Ideal.Prep.arr4 m c) (y 0) (y 1) := by
      funext y
      idx_vars y
      refine (Cert.Reference5Ideal.Prep.valueRes_at (launchContents m' c) y0 y1).trans ?_
      rw [e0, e2, e4]
    refine ⟨?_, ?_, ?_, ?_, ?_, hrest⟩
    · exact r0.trans (q0.trans (Cert.Kernel5Ideal.Prep.final12 m c).symm)
    · exact r1.trans (q1.trans (Cert.Kernel5Ideal.Prep.final13 m c).symm)
    · exact r2.trans (q2.trans (Cert.Kernel5Ideal.Prep.final14 m c (hx c)).symm)
    · exact r3.trans (q3.trans (Cert.Kernel5Ideal.Prep.final15 m c (hx c)).symm)
    · exact r4.trans (q4.trans (Cert.Kernel5Ideal.Prep.final16 m c).symm)
end Cert.Proof
end
-- ==== Proof.SbRef.lean ====
module
public import proofs.«01_k».proof.Proof.Gen.ReferenceIdeal.Run
public import proofs.«01_k».proof.Proof.SbMath
import Idealize.ShloMosaic.Lib.Tactic.WordOmega
set_option maxRecDepth 16384
@[expose] public section
noncomputable section
namespace Cert.ReferenceIdeal.Sb
open Cert.ReferenceIdeal Cert.ReferenceIdeal.Gen Idealize.ShloMosaic Idealize.ShloMosaic.TcCoe Idealize.SL.Sem
open Cert.Sb

/-- The reference's scores: every query against every key, over eight. -/
def scores (x : FVec Ideal S16896x6656 .f32) : FVec Ideal S8x2x4x2048x2048 .f32 :=
  mulf (transpose S8x2x4x2048x2048 [0, 1, 4, 3, 2] (Host.dotGeneral dot_S8x2048x2x64_S8x2048x2x4x64_S8x2x2048x2048x4_3_4_1_13_02_02 none (shapeCast _ (extractStridedSlice S16384x128 ![0, 2560] x slices_S16896x6656_S16384x128_0_2560) shapeCasts_S16384x128_S8x2048x2x64) (shapeCast _ (extractStridedSlice S16384x512 ![0, 0] x slices_S16896x6656_S16384x512_0_0) shapeCasts_S16384x512_S8x2048x2x4x64)) transposes_S8x2x2048x2048x4_S8x2x4x2048x2048_0_1_4_3_2) (broadcastInDim S8x2x4x2048x2048 ![] bcast_S_S8x2x4x2048x2048 (constant S_ .f32 0x3E000000#32))

/-- The reference's logarithm of the logistic function, as it is printed, before its last negation's argument is negated. -/
def logSig (y : FVec Ideal S8x2x4x2048x2048 .f32) : FVec Ideal S8x2x4x2048x2048 .f32 :=
  Host.negf (select (cmpf .une (subf (Host.negf y) (broadcastInDim S8x2x4x2048x2048 ![] bcast_S_S8x2x4x2048x2048 (constant S_ .f32 0x00000000#32))) (subf (Host.negf y) (broadcastInDim S8x2x4x2048x2048 ![] bcast_S_S8x2x4x2048x2048 (constant S_ .f32 0x00000000#32)))) (addf (Host.negf y) (broadcastInDim S8x2x4x2048x2048 ![] bcast_S_S8x2x4x2048x2048 (constant S_ .f32 0x00000000#32))) (addf (maximumf (Host.negf y) (broadcastInDim S8x2x4x2048x2048 ![] bcast_S_S8x2x4x2048x2048 (constant S_ .f32 0x00000000#32))) (Host.log1p (Host.exp (Host.negf (Host.absf (subf (Host.negf y) (broadcastInDim S8x2x4x2048x2048 ![] bcast_S_S8x2x4x2048x2048 (constant S_ .f32 0x00000000#32)))))))))

/-- The reference's mask: a key strictly before the query. -/
def mask : IVec S8x2x4x2048x2048 1 :=
  broadcastInDim S8x2x4x2048x2048 ![3, 4] bcast_S2048x2048_S8x2x4x2048x2048_3_4 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- What the keys at and beyond each place leave, summed: a sum over windows that reach past the end. -/
def sums (y : FVec Ideal S8x2x4x2048x2048 .f32) : FVec Ideal S8x2x4x2048x2048 .f32 :=
  Host.reduceWindowAdd ![1, 1, 1, 1, 2048] ![1, 1, 1, 1, 1] ![0, 0, 0, 0, 0] ![0, 0, 0, 0, 2047] y (constant S_ .f32 0x00000000#32) reduceWindows_S8x2x4x2048x2048_S8x2x4x2048x2048_w1s1p0_0_w1s1p0_0_w1s1p0_0_w1s1p0_0_w2048s1p0_2047 h_S_

/-- The logarithms of what each key leaves, nothing being taken outside the mask. -/
def lefts (x : FVec Ideal S16896x6656 .f32) : FVec Ideal S8x2x4x2048x2048 .f32 :=
  select mask (logSig (Host.negf (scores x))) (broadcastInDim S8x2x4x2048x2048 ![] bcast_S_S8x2x4x2048x2048 (constant S_ .f32 0x00000000#32))

/-- The weights. -/
def weights (x : FVec Ideal S16896x6656 .f32) : FVec Ideal S8x2x4x2048x2048 .f32 :=
  select mask (Host.exp (addf (logSig (scores x)) (subf (sums (lefts x)) (lefts x)))) (broadcastInDim S8x2x4x2048x2048 ![] bcast_S_S8x2x4x2048x2048 (constant S_ .f32 0x00000000#32))

/-- The reference's result, a function of the packed projection. -/
def result (x : FVec Ideal S16896x6656 .f32) : FVec Ideal S16384x512 .bf16 :=
  truncf .bf16 (shapeCast S16384x512 (transpose S8x2048x2x4x64 [0, 4, 1, 3, 2] (Host.dotGeneral (F := Ideal) (φ₁ := .f32) (φ₂ := .f32) dot_S8x2048x2x64_S8x2x4x2048x2048_S8x2x64x4x2048_1_4_3_23_02_01 none (shapeCast _ (extractStridedSlice S16384x128 ![0, 2688] x slices_S16896x6656_S16384x128_0_2688) shapeCasts_S16384x128_S8x2048x2x64) (weights x)) transposes_S8x2x64x4x2048_S8x2048x2x4x64_0_4_1_3_2) shapeCasts_S8x2048x2x4x64_S16384x512) bitsLt_bf16_f32

theorem res_eq (m : (ℓ : Loc nD τ sig) → Buf (Elt Ideal) ℓ) (c : Dev nD) :
    Value.res_out0 (F := Ideal) m c = result (m ((c.tc : Thread nD τ).loc main_arg0)) := by
  unfold Value.res_out0 Value.res_main_v28
  rfl

section
variable (x : FVec Ideal S16896x6656 .f32) (b : Fin 8) (h : Fin 2) (g : Fin 4) (t s : Fin 2048)

theorem scores_apply (hx : Finite x) : scores x (ix5 b h g t s) = (score x b h g t s : EReal) := by
  pointwise [scores]
  rw [eighth, score, EReal.coe_mul, Cert.Sb.coe_sum]
  congr 1
  refine Finset.sum_congr rfl fun d _ => ?_
  have hb := b.isLt; have hh := h.isLt; have hg := g.isLt; have ht := t.isLt; have hs := s.isLt; have hd := d.isLt
  rw [elem_of_lt x, elem_of_lt x, EReal.coe_mul, ← hx _ _ (by omega) (by omega), ← hx _ _ (by omega) (by omega)]

/-- The printed logarithm of the logistic function at a real. -/
theorem logSig_apply (y : FVec Ideal S8x2x4x2048x2048 .f32) (r : ℝ) (hy : y (ix5 b h g t s) = (r : EReal)) :
    logSig y (ix5 b h g t s) = (lsg r : EReal) := by
  pointwise [logSig, hy]
  rw [if_neg (fun h => h rfl), ← EReal.coe_neg, max_zero_coe]
  rw [show FloatOps.absf (F := Ideal) (φ := .f32) ((-r : ℝ) : EReal) = max ((-r : ℝ) : EReal) (-((-r : ℝ) : EReal)) from rfl, max_neg_coe,
    ← EReal.coe_neg, Ideal.log1p, log_one_add_exp, ← EReal.coe_add, ← EReal.coe_neg, lsg, abs_neg]
  congr 1
  rcases le_total r 0 with h | h
  · rw [min_eq_left h, max_eq_left (by linarith)]; ring
  · rw [min_eq_right h, max_eq_right (by linarith)]; ring

theorem mask_apply : mask (ix5 b h g t s) = if s < t then 1#1 else 0#1 := by
  pointwise [mask]
  have ht := t.isLt; have hs := s.isLt
  show BitVec.ofBool ((BitVec.ofNat 32 ↑s).slt (BitVec.ofNat 32 ↑t)) = _
  rw [slt_ofNat (by omega) (by omega)]
  by_cases hst : s < t
  · rw [if_pos hst, decide_eq_true (by omega)]; rfl
  · rw [if_neg hst, decide_eq_false (by omega)]; rfl

/-- A window's sum: the elements from its place on. -/
theorem sums_apply (y : FVec Ideal S8x2x4x2048x2048 .f32) (f : ℕ → ℝ) (hy : ∀ s : Fin 2048, y (ix5 b h g t s) = (f s : EReal)) :
    sums y (ix5 b h g t s) = ((∑ a ∈ Finset.Ico s.val 2048, f a : ℝ) : EReal) := by
  have hf : ∀ (N : ℕ) (l : List (Fin N)) (φ : Fin N → EReal) (r : EReal), l.foldl (fun r n => r + φ n) r = r + (l.map φ).sum := by
    intro N l φ
    induction l with
    | nil => intro r; simp
    | cons a l ih => intro r; rw [List.foldl_cons, ih, List.map_cons, List.sum_cons, add_assoc]
  unfold sums Host.reduceWindowAdd
  rw [Ideal.hostReduceWindowAdd_def]
  unfold Ideal.hostReduceWindowAdd Host.reduceWindow
  dsimp only
  rw [hf, ← Fin.sum_univ_def]
  rw [show (constant (F := Ideal) S_ FTy.f32 (0#32) (Shape.Idx.first h_S_) : EReal) = 0 from Ideal.ofBits_zero_f32, zero_add]
  rw [← sum_window, Cert.Sb.coe_sum]
  refine (Fintype.sum_equiv ((⟨5, ![1, 1, 1, 1, 2048]⟩ : Shape).rowMajor.symm) _
    (fun w : (⟨5, ![1, 1, 1, 1, 2048]⟩ : Shape).Idx => if s.val + (w 4).val < 2048 then ((f (s.val + (w 4).val) : ℝ) : EReal) else 0) fun i => ?_).trans ?_
  · let w := (⟨5, ![1, 1, 1, 1, 2048]⟩ : Shape).rowMajor.symm i
    have hb := b.isLt; have hh := h.isLt; have hg := g.isLt; have ht := t.isLt
    have h0 : (w 0).val < 1 := (w 0).isLt
    have h1 : (w 1).val < 1 := (w 1).isLt
    have h2 : (w 2).val < 1 := (w 2).isLt
    have h3 : (w 3).val < 1 := (w 3).isLt
    by_cases hw : s.val + (w 4).val < 2048
    · refine (dif_pos (fun a => ?_)).trans (Eq.trans ?_ (if_pos hw).symm)
      rotate_left
      · rw [← hy ⟨s.val + (w 4).val, hw⟩]
        refine congrArg y (funext fun a => Fin.ext ?_)
        match a with
        | ⟨0, _⟩ => show b.val * 1 + (w 0).val - 0 = b.val; omega
        | ⟨1, _⟩ => show h.val * 1 + (w 1).val - 0 = h.val; omega
        | ⟨2, _⟩ => show g.val * 1 + (w 2).val - 0 = g.val; omega
        | ⟨3, _⟩ => show t.val * 1 + (w 3).val - 0 = t.val; omega
        | ⟨4, _⟩ => show s.val * 1 + (w 4).val - 0 = s.val + (w 4).val; omega
      · match a with
        | ⟨0, _⟩ => show 0 ≤ b.val * 1 + (w 0).val ∧ b.val * 1 + (w 0).val - 0 < 8; omega
        | ⟨1, _⟩ => show 0 ≤ h.val * 1 + (w 1).val ∧ h.val * 1 + (w 1).val - 0 < 2; omega
        | ⟨2, _⟩ => show 0 ≤ g.val * 1 + (w 2).val ∧ g.val * 1 + (w 2).val - 0 < 4; omega
        | ⟨3, _⟩ => show 0 ≤ t.val * 1 + (w 3).val ∧ t.val * 1 + (w 3).val - 0 < 2048; omega
        | ⟨4, _⟩ => show 0 ≤ s.val * 1 + (w 4).val ∧ s.val * 1 + (w 4).val - 0 < 2048; omega
    · refine (dif_neg (fun hin => hw ?_)).trans (if_neg hw).symm
      have : s.val * 1 + (w 4).val - 0 < 2048 := (hin 4).2
      omega
  · rw [sum_idx5]
    simp only [Fin.sum_univ_one, ix5_4]
    refine Finset.sum_congr rfl fun w _ => ?_
    split
    · rename_i h'; exact if_pos h'
    · rename_i h'; exact if_neg h'

theorem lefts_apply (hx : Finite x) : lefts x (ix5 b h g t s) = (left (score x b h g t) t s : EReal) := by
  have hy : Host.negf (scores x) (ix5 b h g t s) = ((-score x b h g t s : ℝ) : EReal) := by
    pointwise [scores_apply x b h g t s hx]
    rw [EReal.coe_neg]
  pointwise [lefts, logSig_apply b h g t s _ _ hy, mask_apply, lsg_neg]
  by_cases hst : s < t
  · rw [if_pos hst, left, if_pos (by omega)]; rfl
  · rw [if_neg hst, left, if_neg (by omega)]; rfl

theorem weights_apply (hx : Finite x) : weights x (ix5 b h g t s) = (weight (score x b h g t) t s : EReal) := by
  pointwise [weights, logSig_apply b h g t s _ _ (scores_apply x b h g t s hx), mask_apply, lefts_apply x b h g t s hx,
    sums_apply b h g t s _ _ fun s => lefts_apply x b h g t s hx]
  by_cases hst : s < t
  · rw [if_pos hst, weight, if_pos (by omega)]
    rw [show ∀ a b : EReal, Scalar.select 1#1 a b = a from fun _ _ => rfl, ← EReal.coe_sub, ← EReal.coe_add, Ideal.exp_coe]
    have := rest_succ (score x b h g t) t s.isLt
    unfold rest at this ⊢
    rw [this, add_sub_cancel_left]
  · rw [if_neg hst, weight, if_neg (by omega)]; rfl
end

/-- The reference's result at a row and a column: the weighted sum of all the values. -/
theorem result_apply (x : FVec Ideal S16896x6656 .f32) (hx : Finite x) (r : Fin 16384) (c : Fin 512) :
    result x (ix2 r c) = total (score x (r.val / 2048) (c.val / 256) (c.val / 64 % 4) (r.val % 2048)) (r.val % 2048)
      (val x (r.val / 2048) (c.val / 256) (c.val % 64)) 0 := by
  have hr := r.isLt; have hc := c.isLt
  pointwise [result, weights_apply _ _ _ _ _ _ hx]
  rw [total, ← Finset.range_eq_Ico, Finset.sum_range]
  refine Finset.sum_congr rfl fun s _ => ?_
  rw [mul_comm, elem_of_lt x, val]

end Cert.ReferenceIdeal.Sb
-- ==== Proof.SbStep.lean ====
module
public import proofs.«01_k».proof.Proof.Gen.KernelIdeal.Skeleton
public import proofs.«01_k».proof.Proof.SbMath
/-!
One block of keys, as the kernel treats it: what each of the kernel's expressions holds at an index, when the scores
are reals.
-/
set_option maxRecDepth 16384
@[expose] public section
noncomputable section
namespace Cert.KernelIdeal.Sb
open Cert.KernelIdeal Cert.KernelIdeal.Gen Idealize.ShloMosaic Idealize.ShloMosaic.TcCoe Idealize.SL.Sem
open Cert.Sb

/-- The strictly lower triangle of ones, by which the kernel sums what the later keys of a block leave. -/
def Triangle (u : FVec Ideal S256x256 .bf16) : Prop := ∀ a b : Fin 256, u (ix2 a b) = if b < a then 1 else 0

/-- A sum against one column of the triangle, taken in a rounded part and a remainder: with nothing rounded the remainder is nought. -/
theorem split_sum (f : Fin 256 → ℝ) (s : Fin 256) :
    ((∑ x, (f x : EReal) * if s < x then 1 else 0) + ∑ x, ((f x : EReal) - (f x : EReal)) * if s < x then 1 else 0)
      = ((∑ a : Fin 256, if s < a then f a else 0 : ℝ) : EReal) := by
  rw [Finset.sum_eq_zero (s := Finset.univ) (f := fun x => ((f x : EReal) - (f x : EReal)) * if s < x then 1 else 0) fun x _ => by
    rw [← EReal.coe_sub, sub_self, EReal.coe_zero, zero_mul], add_zero, Cert.Sb.coe_sum]
  refine Finset.sum_congr rfl fun x _ => ?_
  split <;> simp

section
variable (u : FVec Ideal S256x256 .bf16) (q : FVec Ideal S1024x64 .bf16) (k v : FVec Ideal S256x64 .f32)
  (acc : FVec Ideal S1024x64 .f32) (cbv : FVec Ideal S1024x1 .f32) (z : Fin 1024 → Fin 256 → ℝ) (cb : Fin 1024 → ℝ)

/-- The scores of a block. -/
theorem pay21_apply (q' : Fin 1024 → Fin 64 → ℝ) (k' : Fin 256 → Fin 64 → ℝ) (hq : ∀ r d, q (ix2 r d) = (q' r d : EReal))
    (hk : ∀ s d, k (ix2 s d) = (k' s d : EReal)) (r : Fin 1024) (s : Fin 256) :
    k0_pay21 q k (ix2 r s) = ((∑ d, q' r d * k' s d : ℝ) : EReal) := by
  pointwise [k0_pay21, hq, hk]
  rw [Cert.Sb.coe_sum]
  exact Finset.sum_congr rfl fun d _ => (EReal.coe_mul _ _).symm

variable (hz : ∀ r s, k0_pay21 q k (ix2 r s) = (z r s : EReal))
include hz

theorem pay22_apply (r : Fin 1024) (s : Fin 256) : k0_pay22 q k (ix2 r s) = (lsg (z r s) : EReal) := by
  pointwise [k0_pay22, hz]
  rw [show FloatOps.absf (F := Ideal) (φ := .f32) (z r s : EReal) = max (z r s : EReal) (-(z r s : EReal)) from rfl, max_neg_coe,
    min_zero_coe, zero_sub, ← EReal.coe_neg, log_one_add_exp, ← EReal.coe_sub, lsg]

theorem pay23_apply (r : Fin 1024) (s : Fin 256) : k0_pay23 q k (ix2 r s) = ((lsg (z r s) - z r s : ℝ) : EReal) := by
  pointwise [k0_pay23, hz, pay22_apply q k z hz]
  rw [EReal.coe_sub]

theorem pay24_apply (hu : Triangle u) (r : Fin 1024) (s : Fin 256) :
    k0_pay24 u q k (ix2 r s) = ((∑ a : Fin 256, if s < a then lsg (z r a) - z r a else 0 : ℝ) : EReal) := by
  pointwise [k0_pay24, pay23_apply q k z hz, hu _ _]
  exact split_sum _ _
theorem pay25_apply (hu : Triangle u) (hc : ∀ r, cbv (ix2 r 0) = (cb r : EReal)) (r : Fin 1024) (d : Fin 64) :
    k0_pay25 u q acc cbv k v (ix2 r d) = acc (ix2 r d) + ∑ s : Fin 256,
      ((Real.exp (lsg (z r s) + ((∑ a : Fin 256, if s < a then lsg (z r a) - z r a else 0) + cb r)) : ℝ) : EReal) * v (ix2 s d) := by
  pointwise [k0_pay25, pay24_apply u q k z hz hu, pay22_apply q k z hz, hc]
  congr 1
  refine Finset.sum_congr rfl fun s _ => ?_
  rw [← EReal.coe_add, ← EReal.coe_add, Ideal.exp_coe, add_assoc]
theorem pay26_apply (hu : Triangle u) (hc : ∀ r, cbv (ix2 r 0) = (cb r : EReal)) (r : Fin 1024)  :
    k0_pay26 u q cbv k (ix2 r 0) = ((cb r + (∑ a : Fin 256, if 0 < a then lsg (z r a) - z r a else 0) + (lsg (z r 0) - z r 0) : ℝ) : EReal) := by
  pointwise [k0_pay26, pay24_apply u q k z hz hu, pay23_apply q k z hz, hc]
  rw [← EReal.coe_add, ← EReal.coe_add]

/-! ## The diagonal block, where the keys at and after the query are masked -/

/-- What key `a` of the diagonal block leaves. -/
def dleft (r : Fin 1024) (a : Fin 256) : ℝ := if a.val < r.val % 256 then lsg (z r a) - z r a else 0

omit hz in
theorem pay35_apply (r : Fin 1024) (s : Fin 256) : k0_pay35 (ix2 r s) = if s.val < r.val % 256 then 1#1 else 0#1 := by
  pointwise [k0_pay35]
  have key : ∀ r : Fin 1024, (Scalar.select
        (IntOp.andi
          (IntOp.xori
            (IntOp.cmpi CmpIPredicate.slt
              (IntOp.remsi ArithUnit.vector (BitVec.ofNat 32 ↑r)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 ↑r)
              (Scalar.select (Scalar.cmpi CmpIPredicate.eq 256#32 0#32) 1#32 256#32))
            0#32))
        (IntOp.addi
          (IntOp.remsi ArithUnit.vector (BitVec.ofNat 32 ↑r)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 ↑r)
          (Scalar.select (Scalar.cmpi CmpIPredicate.eq 256#32 0#32) 1#32 256#32))) = BitVec.ofNat 32 (r.val % 256) := by
    decide +kernel
  rw [key r]
  show BitVec.ofBool ((BitVec.ofNat 32 s.val).slt (BitVec.ofNat 32 (r.val % 256))) = _
  have hs := s.isLt
  rw [slt_ofNat (by omega) (by omega)]
  by_cases h : s.val < r.val % 256
  · rw [if_pos h, decide_eq_true h]; rfl
  · rw [if_neg h, decide_eq_false h]; rfl

theorem pay42_apply (r : Fin 1024) (s : Fin 256) : k0_pay42 q k (ix2 r s) = (lsg (z r s) : EReal) := pay22_apply q k z hz r s

theorem pay43_apply (r : Fin 1024) (s : Fin 256) : k0_pay43 k0_pay35 q k (ix2 r s) = (dleft z r s : EReal) := by
  have h1 : k0_pay41 q k (ix2 r s) = (z r s : EReal) := hz r s
  pointwise [k0_pay43, pay42_apply q k z hz, pay35_apply, h1]
  by_cases h : s.val < r.val % 256
  · rw [if_pos h, dleft, if_pos h, EReal.coe_sub]; rfl
  · rw [if_neg h, dleft, if_neg h]; rfl

theorem pay44_apply (hu : Triangle u) (r : Fin 1024) (s : Fin 256) :
    k0_pay44 k0_pay35 u q k (ix2 r s) = ((∑ a : Fin 256, if s < a then dleft z r a else 0 : ℝ) : EReal) := by
  pointwise [k0_pay44, pay43_apply q k z hz, hu _ _]
  exact split_sum _ _

theorem pay45_apply (hu : Triangle u) (r : Fin 1024) (d : Fin 64) :
    k0_pay45 k0_pay35 u q k v (ix2 r d) = ∑ s : Fin 256,
      ((if s.val < r.val % 256 then Real.exp (lsg (z r s) + ∑ a : Fin 256, if s < a then dleft z r a else 0) else 0 : ℝ) : EReal) * v (ix2 s d) := by
  pointwise [k0_pay45, k0_pay39, k0_pay40, pay44_apply u q k z hz hu, pay42_apply q k z hz, pay35_apply]
  refine Finset.sum_congr rfl fun s _ => ?_
  by_cases h : s.val < r.val % 256
  · rw [if_pos h, if_pos h, ← EReal.coe_add, ← Ideal.exp_coe]; rfl
  · rw [if_neg h, if_neg h, EReal.coe_zero, zero_mul]; rfl

theorem pay46_apply (hu : Triangle u) (r : Fin 1024) :
    k0_pay46 k0_pay40 (k0_pay43 k0_pay35 q k) (k0_pay44 k0_pay35 u q k) (ix2 r 0)
      = (((∑ a : Fin 256, if 0 < a then dleft z r a else 0) + dleft z r 0 : ℝ) : EReal) := by
  pointwise [k0_pay46, k0_pay40, pay44_apply u q k z hz hu, pay43_apply q k z hz]
  rw [EReal.coe_add]
end

/-! ## The two blocks in the terms of the whole row of keys -/

section
variable (u : FVec Ideal S256x256 .bf16) (q : FVec Ideal S1024x64 .bf16) (k v : FVec Ideal S256x64 .f32)
  (acc : FVec Ideal S1024x64 .f32) (cbv : FVec Ideal S1024x1 .f32) (z : Fin 1024 → ℕ → ℝ) (t : Fin 1024 → ℕ) (w : Fin 64 → ℕ → EReal) (n : ℕ)
  (hu : Triangle u) (hz : ∀ r s, k0_pay21 q k (ix2 r s) = (z r (n + s.val) : EReal)) (hv : ∀ s d, v (ix2 s d) = w d (n + s.val))
include hu hz hv

/-- A block of keys before the diagonal one, added to what the later blocks gave. -/
theorem block_step (hn : ∀ r, n + 256 ≤ t r) (ht : ∀ r, t r ≤ 2048)
    (hacc : ∀ r d, acc (ix2 r d) = total (z r) (t r) (w d) (n + 256)) (hc : ∀ r, cbv (ix2 r 0) = (rest (z r) (t r) (n + 256) : EReal)) :
    (∀ r d, k0_pay25 u q acc cbv k v (ix2 r d) = total (z r) (t r) (w d) n)
      ∧ ∀ r, k0_pay26 u q cbv k (ix2 r 0) = (rest (z r) (t r) n : EReal) := by
  constructor
  · intro r d
    rw [pay25_apply u q k v acc cbv (fun r s => z r (n + s.val)) (fun r => rest (z r) (t r) (n + 256)) hz hu hc, hacc,
      total_block (z r) (t r) (w d) n 256 (le_trans (hn r) (ht r)), add_comm]
    congr 1
    refine Finset.sum_congr rfl fun s _ => ?_
    have := hn r; have := s.isLt
    rw [hv, weight, if_pos (by omega), rest_in_block _ _ n 256 (by have := ht r; omega) s]
    congr 5
    refine Finset.sum_congr rfl fun a _ => ?_
    have := a.isLt
    rw [left, if_pos (show n + a.val < t r by omega)]
  · intro r
    rw [pay26_apply u q k cbv (fun r s => z r (n + s.val)) (fun r => rest (z r) (t r) (n + 256)) hz hu hc]
    congr 1
    have := hn r; have := ht r
    rw [rest_succ _ _ (show n < 2048 by omega)]
    have h := rest_in_block (z r) (t r) n 256 (by omega) 0
    simp only [Fin.val_zero, Nat.add_zero] at h
    rw [h, left, if_pos (show n < t r by omega)]
    have : (∑ a : Fin 256, if 0 < a then lsg (z r (n + a.val)) - z r (n + a.val) else 0) = ∑ a : Fin 256, if 0 < a then left (z r) (t r) (n + a.val) else 0 :=
      Finset.sum_congr rfl fun a _ => by have := a.isLt; rw [left, if_pos (show n + a.val < t r by omega)]
    rw [← this]
    simp only [Fin.val_zero, Nat.add_zero]
    ring

/-- The diagonal block: the keys after it are at or after the query, and count for nothing. -/
theorem block_diag (ht : ∀ r, t r = n + r.val % 256) (hn : n + 256 ≤ 2048) :
    (∀ r d, k0_pay45 k0_pay35 u q k v (ix2 r d) = total (z r) (t r) (w d) n)
      ∧ ∀ r, k0_pay46 k0_pay40 (k0_pay43 k0_pay35 q k) (k0_pay44 k0_pay35 u q k) (ix2 r 0) = (rest (z r) (t r) n : EReal) := by
  have hl : ∀ (r : Fin 1024) (a : Fin 256), dleft (fun r s => z r (n + s.val)) r a = left (z r) (t r) (n + a.val) := by
    intro r a
    rw [dleft, left, ht r]
    by_cases h : a.val < r.val % 256
    · rw [if_pos h, if_pos (by omega)]
    · rw [if_neg h, if_neg (by omega)]
  constructor
  · intro r d
    rw [pay45_apply u q k v (fun r s => z r (n + s.val)) hz hu, total_block (z r) (t r) (w d) n 256 hn,
      total_of_le _ _ _ (show t r ≤ n + 256 by have := ht r; omega), add_zero]
    refine Finset.sum_congr rfl fun s _ => ?_
    rw [hv, weight, rest_in_block _ _ n 256 hn s, rest_of_le _ _ (show t r ≤ n + 256 by have := ht r; omega), add_zero]
    simp only [hl]
    rw [ht r]
    congr 2
    by_cases h : s.val < r.val % 256
    · rw [if_pos h, if_pos (by omega)]
    · rw [if_neg h, if_neg (by omega)]
  · intro r
    rw [pay46_apply u q k (fun r s => z r (n + s.val)) hz hu]
    congr 1
    rw [rest_succ _ _ (show n < 2048 by omega)]
    have h := rest_in_block (z r) (t r) n 256 hn 0
    simp only [Fin.val_zero, Nat.add_zero] at h
    rw [h, rest_of_le _ _ (show t r ≤ n + 256 by have := ht r; omega), add_zero, add_comm]
    simp only [hl, Fin.val_zero, Nat.add_zero]
end

theorem head1_pay5 (u : FVec Ideal S256x256 .bf16) (q : FVec Ideal S1024x64 .bf16) (k v : FVec Ideal S256x64 .f32)
  (acc : FVec Ideal S1024x64 .f32) (cbv : FVec Ideal S1024x1 .f32) : k0_pay5 u q acc cbv (k0_pay27 k) v = k0_pay25 u q acc cbv k v := rfl
theorem head1_pay6 (u : FVec Ideal S256x256 .bf16) (q : FVec Ideal S1024x64 .bf16) (k v : FVec Ideal S256x64 .f32)
  (cbv : FVec Ideal S1024x1 .f32) : k0_pay6 u q cbv (k0_pay27 k) = k0_pay26 u q cbv k := rfl
theorem head1_pay51 (u : FVec Ideal S256x256 .bf16) (q : FVec Ideal S1024x64 .bf16) (k v : FVec Ideal S256x64 .f32)
   : k0_pay51 k0_pay35 u q k0_pay39 k0_pay40 k v = k0_pay45 k0_pay35 u q k v := rfl
theorem head1_pay52 (u : FVec Ideal S256x256 .bf16) (q : FVec Ideal S1024x64 .bf16) (k v : FVec Ideal S256x64 .f32)
   : k0_pay52 k0_pay35 u q k0_pay40 k = k0_pay46 k0_pay40 (k0_pay43 k0_pay35 q k) (k0_pay44 k0_pay35 u q k) := rfl
end Cert.KernelIdeal.Sb
-- ==== Proof.SbRun.lean ====
module
public import proofs.«01_k».proof.Proof.Gen.KernelIdeal.Value
public import proofs.«01_k».proof.Proof.SbStep
import Idealize.ShloMosaic.Lib.Pointwise
import Idealize.ShloMosaic.Lib.Pipeline.ValueKit
/-!
One grid point of the kernel: the diagonal block of keys first, then the blocks before it from the latest to the
earliest, leave in the output block the stick-breaking totals of its 256 queries.
-/
set_option maxRecDepth 16384
@[expose] public section
noncomputable section
namespace Cert.KernelIdeal.Sb
open Cert.KernelIdeal Cert.KernelIdeal.Gen Idealize.ShloMosaic Idealize.ShloMosaic.TcCoe Idealize.SL.Sem
open Cert.Sb

/-- What the loop carries: for either key head the totals and the sums still to be added. -/
abbrev Carried : Type := FVec Ideal S1024x64 .f32 × FVec Ideal S1024x1 .f32 × FVec Ideal S1024x64 .f32 × FVec Ideal S1024x1 .f32

/-- The carried values hold the totals over the keys from `n` on, and what those keys leave for the keys before `n`. -/
def Holds (z : Fin 2 → Fin 1024 → ℕ → ℝ) (t : Fin 1024 → ℕ) (w : Fin 2 → Fin 64 → ℕ → EReal) (n : ℕ) (S : Carried) : Prop :=
  ((∀ r d, S.1 (ix2 r d) = total (z 0 r) (t r) (w 0 d) n) ∧ ∀ r, S.2.1 (ix2 r 0) = (rest (z 0 r) (t r) n : EReal))
    ∧ (∀ r d, S.2.2.1 (ix2 r d) = total (z 1 r) (t r) (w 1 d) n) ∧ ∀ r, S.2.2.2 (ix2 r 0) = (rest (z 1 r) (t r) n : EReal)

/-- The trip's first row, in closed form. -/
theorem off_eq : ∀ a k : Fin 8, k.val < a.val → BitVec.toNat (Scalar.indexCast (Scalar.muli (Scalar.subi (Scalar.subi (BitVec.ofNat 32 a.val) 1#32) (Scf.iv 0#32 1#32 k.val)) 256#32))
    = 256 * (a.val - 1 - k.val) := by decide +kernel

/-- The diagonal block's first row. -/
theorem diag_off : ∀ a : Fin 8, BitVec.toNat (Scalar.indexCast (Scalar.muli (BitVec.ofNat 32 a.val) 256#32)) = 256 * a.val := by decide +kernel

theorem trips1 (i : grid0.Coords) : (k0_t1_loop i).trips = (i 1).val :=
  (by decide +kernel : ∀ a : Fin 8, Scf.trips 0#32 (Scalar.addi 0#32 (Scalar.muli (Scalar.divsi (Scalar.subi (BitVec.ofNat 32 a.val) 0#32) 1#32) 1#32)) 1#32 = a.val) (i 1)

theorem trips2 (i : grid0.Coords) : (k0_t2_loop i).trips = 0 :=
  (by decide +kernel : ∀ a : Fin 8, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0) (i 1)

section
variable (c : Dev nD) (i : grid0.Coords) (arg2 : Memref sig .tc .vmem S256x512 .f32) (harg2 : arg2.IsWhole) (arg3 : Memref sig .tc .vmem S2048x256 .f32) (harg3 : arg3.IsWhole) (arg4 : Memref sig .tc .vmem S256x256 .bf16) (harg4 : arg4.IsWhole) (arg5 : Memref sig .tc .vmem S256x512 .bf16) (harg5 : arg5.IsWhole)
variable (X : ℕ → ℕ → EReal) (K : ℕ → ℕ → ℝ) (Q : Fin 2 → Fin 1024 → Fin 64 → ℝ)

/-- The score of query row `r` of key head `h` with key `s`. -/
def zrow (h : Fin 2) (r : Fin 1024) (s : ℕ) : ℝ := ∑ d : Fin 64, Q h r d * K s (64 * h.val + d.val)

/-- The value of key `s`. -/
def vcol (h : Fin 2) (d : Fin 64) (s : ℕ) : EReal := X s (128 + (64 * h.val + d.val))

/-- The query's place in its prompt. -/
def place (i : grid0.Coords) (r : Fin 1024) : ℕ := 256 * (i 1).val + r.val % 256

section
variable (arg1 : BitVec 32) (v20 : FVec Ideal S256x256 .bf16) (v28 v36 : FVec Ideal S1024x64 .bf16) (x1 : Vec Ideal S2048x256 .f32)
  (hu : Triangle v20) (hq0 : ∀ r d, v28 (ix2 r d) = (Q 0 r d : EReal)) (hq1 : ∀ r d, v36 (ix2 r d) = (Q 1 r d : EReal))
  (hx : ∀ s d, x1 (ix2 s d) = X s.val d.val) (hK : ∀ s d, s < 2048 → d < 128 → X s d = (K s d : EReal))
include hu hq0 hq1 hx hK

/-- One trip of the loop takes up one block more. -/
theorem trip_holds (v : BitVec 32) (k : Fin (k0_t1_loop i).trips) (acc : Carried)
    (h : Holds (zrow K Q) (place i) (vcol X) (256 * ((i 1).val - k.val)) acc) :
    Holds (zrow K Q) (place i) (vcol X) (256 * ((i 1).val - (k.val + 1))) (tripR_k0_t1 Variants.none c none i arg2 harg2 arg3 harg3 arg4 harg4 arg5 harg5 arg1 v20 v28 v36 v (harg3.unread x1) k acc) := by
  have hk : k.val < (i 1).val := lt_of_lt_of_eq k.isLt (trips1 i)
  have hi : (i 1).val < 8 := (i 1).isLt
  have hoff := off_eq (i 1) ⟨k.val, by omega⟩ hk
  simp only at hoff
  have hn : 256 * ((i 1).val - k.val) = 256 * ((i 1).val - 1 - k.val) + 256 := by omega
  rw [hn] at h
  rw [show 256 * ((i 1).val - (k.val + 1)) = 256 * ((i 1).val - 1 - k.val) by omega]
  have hp : ∀ r, 256 * ((i 1).val - 1 - k.val) + 256 ≤ place i r := fun r => by unfold place; omega
  have hp' : ∀ r, place i r ≤ 2048 := fun r => by unfold place; omega
  generalize 256 * ((i 1).val - 1 - k.val) = n at hoff h hp ⊢
  have hb : n + 256 ≤ 2048 := le_trans (hp 0) (hp' 0)
  unfold tripR_k0_t1 trip_k0_t1
  dsimp only
  sl_unfold_words
  simp only [View.readAt_eq_ld, harg3.read_unread, head1_pay5, head1_pay6]
  constructor
  · refine block_step v20 v28 _ _ acc.1 acc.2.1 (zrow K Q 0) (place i) (vcol X 0) n hu ?_ ?_ hp hp' h.1.1 h.1.2
    · intro r s
      refine pay21_apply v28 _ (Q 0) (fun s d => K (n + s.val) (64 * (0 : Fin 2).val + d.val)) hq0 ?_ r s
      intro s d
      pointwise [hx, hoff]
      rw [hK _ _ (by omega) (by omega)]
    · intro s d
      pointwise [hx, hoff]
      simp [vcol]
  · refine block_step v20 v36 _ _ acc.2.2.1 acc.2.2.2 (zrow K Q 1) (place i) (vcol X 1) n hu ?_ ?_ hp hp' h.2.1 h.2.2
    · intro r s
      refine pay21_apply v36 _ (Q 1) (fun s d => K (n + s.val) (64 * (1 : Fin 2).val + d.val)) hq1 ?_ r s
      intro s d
      pointwise [hx, hoff]
      rw [hK _ _ (by omega) (by omega)]
    · intro s d
      pointwise [hx, hoff]
      simp [vcol, add_assoc, ← add_assoc 128 64]

/-- The whole loop takes up all the blocks before the diagonal one. -/
theorem loop_holds (v : BitVec 32) (init : Carried) (h : Holds (zrow K Q) (place i) (vcol X) (256 * (i 1).val) init) :
    ∀ k, k ≤ (i 1).val → Holds (zrow K Q) (place i) (vcol X) (256 * ((i 1).val - k)) (st_k0_t1 Variants.none c none i arg2 harg2 arg3 harg3 arg4 harg4 arg5 harg5 arg1 v20 v28 v36 v (harg3.unread x1) init k)
  | 0, _ => by rw [st_k0_t1_zero]; exact h
  | k + 1, hk => by
    rw [st_k0_t1_succ Variants.none c none i arg2 harg2 arg3 harg3 arg4 harg4 arg5 harg5 arg1 v20 v28 v36 v (harg3.unread x1) init ⟨k, by rw [trips1]; omega⟩]
    exact trip_holds c i arg2 harg2 arg3 harg3 arg4 harg4 arg5 harg5 X K Q arg1 v20 v28 v36 x1 hu hq0 hq1 hx hK v ⟨k, by rw [trips1]; omega⟩ _
      (loop_holds v init h k (by omega))

/-- Both loops, the second of which makes no trip. -/
theorem loops_hold (v v' : BitVec 32) (init : Carried) (h : Holds (zrow K Q) (place i) (vcol X) (256 * (i 1).val) init) :
    Holds (zrow K Q) (place i) (vcol X) 0 (st_k0_t2 Variants.none c none i arg2 harg2 arg3 harg3 arg4 harg4 arg5 harg5 arg1 v20 v28 v36 v' (harg3.unread x1)
      (st_k0_t1 Variants.none c none i arg2 harg2 arg3 harg3 arg4 harg4 arg5 harg5 arg1 v20 v28 v36 v (harg3.unread x1) init (k0_t1_loop i).trips) (k0_t2_loop i).trips) := by
  rw [trips2, st_k0_t2_zero, trips1]
  have := loop_holds c i arg2 harg2 arg3 harg3 arg4 harg4 arg5 harg5 X K Q arg1 v20 v28 v36 x1 hu hq0 hq1 hx hK v init h (i 1).val le_rfl
  rwa [Nat.sub_self, Nat.mul_zero] at this
end

/-- The scaled queries of a key head: four query heads' rows, one below the other. -/
def qrow (Y : ℕ → ℕ → ℝ) (h : Fin 2) (r : Fin 1024) (d : Fin 64) : ℝ := Y (r.val % 256) (h.val * 256 + r.val / 256 * 64 + d.val) * (1 / 8)

/-- Stacking the four query heads' columns and scaling by an eighth gives those rows. -/
theorem pay37_apply (Y : ℕ → ℕ → ℝ) (h : Fin 2) (p0 p1 p2 p3 : FVec Ideal S256x64 .f32)
    (h0 : ∀ a d, p0 (ix2 a d) = (Y a.val (h.val * 256 + d.val) : EReal)) (h1 : ∀ a d, p1 (ix2 a d) = (Y a.val (h.val * 256 + 64 + d.val) : EReal))
    (h2 : ∀ a d, p2 (ix2 a d) = (Y a.val (h.val * 256 + 128 + d.val) : EReal)) (h3 : ∀ a d, p3 (ix2 a d) = (Y a.val (h.val * 256 + 192 + d.val) : EReal))
    (r : Fin 1024) (d : Fin 64) : k0_pay37 (F := Ideal) p0 p1 p2 p3 (ix2 r d) = (qrow Y h r d : EReal) := by
  pointwise [k0_pay37, h0, h1, h2, h3]
  rw [Cert.Sb.eighth, qrow]
  have := r.isLt
  split_ifs <;> rw [← EReal.coe_mul] <;> congr 3 <;> omega

/-- The other key head's rows are stacked by the same expression. -/
theorem pay38_apply (Y : ℕ → ℕ → ℝ) (h : Fin 2) (p0 p1 p2 p3 : FVec Ideal S256x64 .f32)
    (h0 : ∀ a d, p0 (ix2 a d) = (Y a.val (h.val * 256 + d.val) : EReal)) (h1 : ∀ a d, p1 (ix2 a d) = (Y a.val (h.val * 256 + 64 + d.val) : EReal))
    (h2 : ∀ a d, p2 (ix2 a d) = (Y a.val (h.val * 256 + 128 + d.val) : EReal)) (h3 : ∀ a d, p3 (ix2 a d) = (Y a.val (h.val * 256 + 192 + d.val) : EReal))
    (r : Fin 1024) (d : Fin 64) : k0_pay38 (F := Ideal) p0 p1 p2 p3 (ix2 r d) = (qrow Y h r d : EReal) :=
  pay37_apply Y h p0 p1 p2 p3 h0 h1 h2 h3 r d

theorem total_congr {h h' : Fin 2} {r r' : Fin 1024} {d d' : Fin 64} {t t' : ℕ} (hh : h.val = h'.val) (hr : r.val = r'.val)
    (hd : d.val = d'.val) (ht : t = t') : total (zrow K Q h r) t (vcol X h d) 0 = total (zrow K Q h' r') t' (vcol X h' d') 0 := by
  rw [Fin.ext hh, Fin.ext hr, Fin.ext hd, ht]

/-- What the body leaves in the output block. -/
theorem out_apply (Y : ℕ → ℕ → ℝ) (x0 : Vec Ideal S256x512 .f32) (x1 : Vec Ideal S2048x256 .f32) (x2 : Vec Ideal S256x256 .bf16)
    (hu : Triangle x2) (hy : ∀ a b, x0 (ix2 a b) = (Y a.val b.val : EReal))
    (hx : ∀ s d, x1 (ix2 s d) = X s.val d.val) (hK : ∀ s d, s < 2048 → d < 128 → X s d = (K s d : EReal)) (a : Fin 256) (b : Fin 512) :
    out0_A_3 c i arg2 harg2 arg3 harg3 arg4 harg4 arg5 harg5 x0 x1 x2 (ix2 a b)
      = total (zrow K (qrow Y) ⟨b.val / 256, by omega⟩ ⟨b.val / 64 % 4 * 256 + a.val, by omega⟩) (256 * (i 1).val + a.val)
          (vcol X ⟨b.val / 256, by omega⟩ ⟨b.val % 64, by omega⟩) 0 := by
  conv_lhs => unfold out0_A_3; rw [View.read_writes_eq_canon _ _ _ (cover0_A_3 c i arg2 harg2 arg3 harg3 arg4 harg4 arg5 harg5 x0 x1 x2)]
  conv_lhs => unfold kernelRun0_A; dsimp only
  sl_unfold_words
  generalize hS : st_k0_t2 Variants.none c none i arg2 harg2 arg3 harg3 arg4 harg4 arg5 harg5 _ _ _ _ _ (harg3.unread x1) _ _ = S
  have hf : Holds (zrow K (qrow Y)) (place i) (vcol X) 0 S := by
    rw [← hS]
    clear hS S
    refine loops_hold c i arg2 harg2 arg3 harg3 arg4 harg4 arg5 harg5 X K (qrow Y) _ _ _ _ x1 ?_ ?_ ?_ hx hK _ _ _ ?_
    · sl_unfold_words
      simp only [View.readAt_eq_ld, harg4.read_unread]
      intro a b
      pointwise [k0_pay36]
      exact hu a b
    · sl_unfold_words
      simp only [View.readAt_eq_ld, harg2.read_unread]
      refine pay37_apply Y 0 _ _ _ _ ?_ ?_ ?_ ?_ <;> (intro a d; pointwise [hy])
    · sl_unfold_words
      simp only [View.readAt_eq_ld, harg2.read_unread]
      refine pay38_apply Y 1 _ _ _ _ ?_ ?_ ?_ ?_ <;> (intro a d; pointwise [hy])
    · sl_unfold_words
      simp only [View.readAt_eq_ld, harg2.read_unread, harg3.read_unread, harg4.read_unread, head1_pay51, head1_pay52]
      have hd := diag_off (i 1)
      have hp : ∀ r : Fin 1024, place i r = 256 * (i 1).val + r.val % 256 := fun r => rfl
      have hn : 256 * (i 1).val + 256 ≤ 2048 := by have : (i 1).val < 8 := (i 1).isLt; omega
      constructor
      · refine block_diag _ _ _ _ (zrow K (qrow Y) 0) (place i) (vcol X 0) (256 * (i 1).val) ?_ ?_ ?_ hp hn
        · intro a b
          pointwise [k0_pay36]
          exact hu a b
        · intro r s
          refine pay21_apply _ _ (qrow Y 0) (fun s d => K (256 * (i 1).val + s.val) (64 * (0 : Fin 2).val + d.val)) ?_ ?_ r s
          · refine pay37_apply Y 0 _ _ _ _ ?_ ?_ ?_ ?_ <;> (intro a d; pointwise [hy])
          · intro s d
            pointwise [hx, hd]
            rw [hK _ _ (by omega) (by omega)]
        · intro s d
          pointwise [hx, hd]
          simp [vcol]
      · refine block_diag _ _ _ _ (zrow K (qrow Y) 1) (place i) (vcol X 1) (256 * (i 1).val) ?_ ?_ ?_ hp hn
        · intro a b
          pointwise [k0_pay36]
          exact hu a b
        · intro r s
          refine pay21_apply _ _ (qrow Y 1) (fun s d => K (256 * (i 1).val + s.val) (64 * (1 : Fin 2).val + d.val)) ?_ ?_ r s
          · refine pay38_apply Y 1 _ _ _ _ ?_ ?_ ?_ ?_ <;> (intro a d; pointwise [hy])
          · intro s d
            pointwise [hx, hd]
            rw [hK _ _ (by omega) (by omega)]
        · intro s d
          pointwise [hx, hd]
          simp [vcol, ← add_assoc 128 64]
  clear hS
  canon_tiles x hh
  all_goals
    idx_vars x
    pointwise [k0_pay13, k0_pay14, k0_pay15, k0_pay16, k0_pay17, k0_pay18, k0_pay19, k0_pay20, hf.1.1, hf.2.1]
    refine total_congr X K (qrow Y) ?_ ?_ ?_ ?_ <;> simp only [place, Fin.val_zero, Fin.val_one, Fin.isValue] <;> omega
end

end Cert.KernelIdeal.Sb
-- ==== Proof.SbValue.lean ====
module
public import proofs.«01_k».proof.Proof.SbRun
import Idealize.ShloMosaic.Lib.Pointwise
import Idealize.ShloMosaic.Lib.Pipeline.ValueKit
import Idealize.ShloMosaic.Lib.StableHlo.ReadAt
/-!
The kernel's result array: every element is the stick-breaking total of its query, over the argument's own elements.
-/
set_option maxRecDepth 16384
@[expose] public section
noncomputable section
namespace Cert.KernelIdeal.Sb
open Cert.KernelIdeal Cert.KernelIdeal.Gen Idealize.ShloMosaic Idealize.ShloMosaic.TcCoe Idealize.SL.Sem
open Cert.Sb
variable (m : (ℓ : Loc nD τ sig) → Buf (Elt Ideal) ℓ)

/-- The windows' blocks and the grid's coordinates at every point. -/
theorem idx : ∀ t : Fin cfg0.N, win0_0.index t = ![t.val, 0] ∧ win0_3.index t = ![t.val, 0] ∧ win0_2.index t = ![0, 0]
    ∧ win0_1.index t = ![t.val / 8, 10] ∧ (grid0.coords t 0).val = t.val / 8 ∧ (grid0.coords t 1).val = t.val % 8 ∧ t.val < 64 :=
  (by decide +kernel : ∀ t : Fin grid0.N, _)

/-- The projections, as the launch finds them. -/
abbrev proj (c : Dev nD) : FVec Ideal S16896x6656 .f32 := m ((c : Thread nD τ).loc main_arg0)

theorem q_block (c : Dev nD) (t : Fin cfg0.N) (a : Fin 256) (b : Fin 512) :
    (iblk m c 0 t : FVec Ideal S256x512 .f32) (ix2 a b) = elem (proj m c) (t.val * 256 + a.val) b.val := by
  have ht := (idx t).2.2.2.2.2.2
  rw [← elem_of_lt (proj m c) (show t.val * 256 + a.val < 16896 by omega) (show b.val < 6656 by omega)]
  blk_ext [iblk, V, idx t]

theorem kv_block (c : Dev nD) (t : Fin cfg0.N) (s : Fin 2048) (d : Fin 256) :
    (X0_1 m c t : FVec Ideal S2048x256 .f32) (ix2 s d) = elem (proj m c) (t.val / 8 * 2048 + s.val) (2560 + d.val) := by
  have ht := (idx t).2.2.2.2.2.2
  rw [← elem_of_lt (proj m c) (show t.val / 8 * 2048 + s.val < 16896 by omega) (show 2560 + d.val < 6656 by omega)]
  unfold X0_1 Pipeline.Window.fill
  rw [dif_pos (moved0_1 t _)]
  blk_ext [iblk, V, idx t]

theorem u_block (c : Dev nD) (t : Fin cfg0.N) : Triangle (iblk m c 2 t : FVec Ideal S256x256 .bf16) := by
  intro a b
  blk_simp [iblk, idx t]
  entry_read
  pointwise
  rw [show ((((View.whole main_v6).slice (win0_2.rect t)).emb (ix2 a b) 0 : Fin _) : ℕ) = a.val by blk_simp [idx t] <;> omega,
    show ((((View.whole main_v6).slice (win0_2.rect t)).emb (ix2 a b) 1 : Fin _) : ℕ) = b.val by blk_simp [idx t] <;> omega]
  show (((BitVec.ofBool (BitVec.slt (BitVec.ofNat 32 b.val) (BitVec.ofNat 32 a.val))).toNat : ℝ) : EReal) = _
  rw [slt_ofNat (by omega) (by omega)]
  by_cases h : b < a
  · rw [if_pos h, decide_eq_true (Fin.lt_def.mp h)]; simp
  · rw [if_neg h, decide_eq_false (fun h' => h (Fin.lt_def.mpr h'))]; simp

/-- What the result array is to hold. -/
def total_array (c : Dev nD) : FVec Ideal S16384x512 .bf16 := fun y =>
  total (score (proj m c) ((y 0).val / 2048) ((y 1).val / 256) ((y 1).val / 64 % 4) ((y 0).val % 2048)) ((y 0).val % 2048)
    (val (proj m c) ((y 0).val / 2048) ((y 1).val / 256) ((y 1).val % 64)) 0

theorem final (hx : ∀ c : Dev nD, Finite (proj m c)) (c : Dev nD) : (dats m 0 c).arrAt 3 (cfgs 0).N = total_array m c := by
  refine (dats m 0 c).arrAt_eq_of_covers 3 _ (by decide +kernel) fun t _ y => ?_
  blk_simp
  rw [after0_3]
  unfold outsAt0
  have ht := idx t
  idx_vars y
  refine (out_apply c (grid0.coords t) (ms0_0 t) (hs0_0 t) (ms0_1 t) (hs0_1 t) (ms0_2 t) (hs0_2 t) (ms0_3 t) (hs0_3 t)
    (fun s d => elem (proj m c) (t.val / 8 * 2048 + s) (2560 + d)) (fun s d => (elem (proj m c) (t.val / 8 * 2048 + s) (2560 + d)).toReal)
    (fun a b => (elem (proj m c) (t.val * 256 + a) b).toReal) (iblk m c 0 t) (X0_1 m c t) (iblk m c 2 t) (u_block m c t) ?_ (kv_block m c t) ?_ _ _).trans ?_
  · intro a b
    rw [q_block]
    exact hx c _ _ (by omega) (by omega)
  · intro s d hs hd
    exact hx c _ _ (by omega) (by omega)
  unfold total_array
  have e0 : (((win0_3.blk t).view.emb (ix2 y0 y1) 0 : Fin _) : ℕ) = t.val * 256 + y0.val := by blk_simp [idx t]
  have e1 : (((win0_3.blk t).view.emb (ix2 y0 y1) 1 : Fin _) : ℕ) = y1.val := by blk_simp [idx t]
  rw [e0, e1, ht.2.2.2.2.2.1]
  have h7 := ht.2.2.2.2.2.2
  have hb : (t.val * 256 + y0.val) / 2048 = t.val / 8 := by omega
  have hr : (t.val * 256 + y0.val) % 2048 = 256 * (t.val % 8) + y0.val := by omega
  rw [hb, hr]
  have hz : zrow (fun s d => (elem (proj m c) (t.val / 8 * 2048 + s) (2560 + d)).toReal) (qrow fun a b => (elem (proj m c) (t.val * 256 + a) b).toReal)
      ⟨y1.val / 256, by omega⟩ ⟨y1.val / 64 % 4 * 256 + y0.val, by omega⟩
        = score (proj m c) (t.val / 8) (y1.val / 256) (y1.val / 64 % 4) (256 * (t.val % 8) + y0.val) := by
    funext s
    rw [zrow, score, Finset.sum_mul]
    refine Finset.sum_congr rfl fun d _ => ?_
    rw [qrow]
    dsimp only
    rw [show (y1.val / 64 % 4 * 256 + y0.val) % 256 = y0.val by omega, show (y1.val / 64 % 4 * 256 + y0.val) / 256 = y1.val / 64 % 4 by omega,
      show t.val * 256 + y0.val = t.val / 8 * 2048 + (256 * (t.val % 8) + y0.val) by omega, Nat.mul_comm 64]
    ring
  have hv : vcol (fun s d => elem (proj m c) (t.val / 8 * 2048 + s) (2560 + d)) ⟨y1.val / 256, by omega⟩ ⟨y1.val % 64, by omega⟩
      = val (proj m c) (t.val / 8) (y1.val / 256) (y1.val % 64) := by
    funext s
    rw [vcol, val]
    dsimp only
    rw [← Nat.add_assoc, Nat.mul_comm 64]
  rw [hz, hv]
end Cert.KernelIdeal.Sb
-- ==== Proof.MlpValue.lean ====
module
public import proofs.«01_k».proof.Defs
public import proofs.«01_k».proof.Proof.Gen.Kernel2Ideal.Value
public import proofs.«01_k».proof.Proof.Gen.Reference2Ideal.Run
public import Idealize.ShloMosaic.PureOps.Ideal
public import Idealize.ShloMosaic.Lib.Pointwise
import Idealize.ShloMosaic.Lib.Pipeline.ValueKit
import Idealize.ShloMosaic.Lib.Pipeline.ReadBack
import Idealize.ShloMosaic.Lib.Claim
/-!
The norm and the MLP: every element of the kernel's result is the residual element plus the sum over all 4096 hidden lanes.
The kernel adds 512 lanes at each of a row block's eight points.
-/
set_option maxRecDepth 16384
@[expose] public section
noncomputable section
namespace Cert.Kernel2Ideal.Mlp
open Cert.Kernel2Ideal Cert.Kernel2Ideal.Gen Idealize.ShloMosaic Idealize.ShloMosaic.TcCoe Idealize.SL.Sem
variable (m : (ℓ : Loc nD τ sig) → Buf (Elt Ideal) ℓ)

/-- The windows' blocks at every point. -/
theorem idx : ∀ t : Fin cfg0.N, win0_0.index t = ![t.val / 8, 0] ∧ win0_1.index t = ![0, 0] ∧ win0_2.index t = ![0, t.val % 8]
    ∧ win0_3.index t = ![t.val % 8, 0] ∧ win0_4.index t = ![t.val / 8, 0] ∧ t.val < 176 :=
  (by decide +kernel : ∀ t : Fin grid0.N, _)

/-- A row over its root mean square, times the gain. -/
def normed (X : FVec Ideal S16896x1024 .f32) (g : FVec Ideal S1024 .f32) (r : Fin 16896) (k : Fin 1024) : EReal :=
  X (ix2 r k) * Ideal.rsqrt (Ideal.div (∑ j : Fin 1024, X (ix2 r j) * X (ix2 r j)) (Ideal.ofBits .f32 0x44800000#32) + Ideal.ofBits .f32 0x358637BD#32) * g (ix1 k)

/-- A hidden lane before its square. -/
def lanePre (X : FVec Ideal S16896x1024 .f32) (g : FVec Ideal S1024 .f32) (U : FVec Ideal S1024x4096 .f32) (r : Fin 16896) (l : Fin 4096) : EReal :=
  max (∑ k : Fin 1024, normed X g r k * U (ix2 k l)) 0

/-- A hidden lane's part of an element of the result. -/
def lane (X : FVec Ideal S16896x1024 .f32) (g : FVec Ideal S1024 .f32) (U : FVec Ideal S1024x4096 .f32) (W : FVec Ideal S4096x1024 .f32)
    (r : Fin 16896) (e : Fin 1024) (l : Fin 4096) : EReal :=
  lanePre X g U r l * lanePre X g U r l * W (ix2 l e)

/-- The residual row plus the MLP of its norm. -/
def outAt (X : FVec Ideal S16896x1024 .f32) (g : FVec Ideal S1024 .f32) (U : FVec Ideal S1024x4096 .f32) (W : FVec Ideal S4096x1024 .f32)
    (r : Fin 16896) (e : Fin 1024) : EReal :=
  X (ix2 r e) + ∑ l : Fin 4096, lane X g U W r e l

/-- The first window's block stays while the hidden block moves. -/
theorem rows_stay (c : Dev nD) (t t' : Fin cfg0.N) (h : t.val / 8 = t'.val / 8) : iblk m c 0 t = iblk m c 0 t' := by
  funext y
  blk_ext [iblk, idx t, idx t', h]

/-- The gain is one block. -/
theorem gain_stays (c : Dev nD) (t t' : Fin cfg0.N) : iblk m c 1 t = iblk m c 1 t' := by
  funext y
  blk_ext [iblk, idx t, idx t']

/-- What the first scratch holds after every point: the normed rows of the point's row block. -/
theorem scratch (c : Dev nD) : ∀ (n : ℕ) (h : n < cfg0.N), (outsAt0 m c n h).2.1 = k0_pay1 (F := Ideal) (iblk m c 0 ⟨n, h⟩) (iblk m c 1 ⟨n, h⟩) := by
  intro n
  induction n with
  | zero =>
    intro h
    rw [outsAt0_A m c ⟨0, h⟩ (by rfl) (by show ¬(0 % 8 = 7); decide)]
    frame_out
  | succ n ih =>
    intro h
    by_cases h0 : (n + 1) % 8 = 0
    · rw [outsAt0_A m c ⟨n + 1, h⟩ h0 (by show ¬(n + 1) % 8 = 7; omega)]
      frame_out
    · have e : (outsAt0 m c (n + 1) h).2.1 = (outsAt0 m c n (by omega)).2.1 := by
        by_cases h1 : (n + 1) % 8 = 7
        · rw [outsAt0_C m c ⟨n + 1, h⟩ h0 h1]
          frame_out
          rfl
        · rw [outsAt0_B m c ⟨n + 1, h⟩ h0 h1]
          frame_out
          rfl
      rw [e, ih, rows_stay m c ⟨n + 1, h⟩ ⟨n, by omega⟩ (by show (n + 1) / 8 = n / 8; omega), gain_stays m c ⟨n + 1, h⟩ ⟨n, by omega⟩]

/-- The normed rows a point reads back are those of its own row block. -/
theorem scratch_before (c : Dev nD) (t : Fin cfg0.N) (h0 : ¬t.val % 8 = 0) :
    (outsAt0 m c (t.val - 1) (Nat.lt_of_le_of_lt (Nat.sub_le _ _) t.isLt)).2.1 = k0_pay1 (F := Ideal) (iblk m c 0 t) (iblk m c 1 t) := by
  rw [scratch, rows_stay m c t ⟨t.val - 1, by omega⟩ (by show t.val / 8 = (t.val - 1) / 8; omega), gain_stays m c t ⟨t.val - 1, by omega⟩]

/-- The second scratch after a row block's first point. -/
theorem sum_first (c : Dev nD) (t : Fin cfg0.N) (h0 : t.val % 8 = 0) : (outsAt0 m c t.val t.isLt).2.2
    = k0_pay3 (F := Ideal) (k0_pay1 (F := Ideal) (iblk m c 0 t) (iblk m c 1 t)) (iblk m c 2 t) (k0_pay2 (F := Ideal) (iblk m c 0 t)) (iblk m c 3 t) := by
  rw [outsAt0_A m c t h0 (by omega)]
  frame_out

/-- The second scratch after every other point. -/
theorem sum_next (c : Dev nD) (t : Fin cfg0.N) (h0 : ¬t.val % 8 = 0) : (outsAt0 m c t.val t.isLt).2.2
    = k0_pay3 (F := Ideal) (k0_pay1 (F := Ideal) (iblk m c 0 t) (iblk m c 1 t)) (iblk m c 2 t)
      (outsAt0 m c (t.val - 1) (Nat.lt_of_le_of_lt (Nat.sub_le _ _) t.isLt)).2.2 (iblk m c 3 t) := by
  rw [← scratch_before m c t h0]
  by_cases h1 : t.val % 8 = 7
  · rw [outsAt0_C m c t h0 h1]
    frame_out
    rw [read_unread_whole, read_unread_whole]
  · rw [outsAt0_B m c t h0 h1]
    frame_out
    rw [read_unread_whole, read_unread_whole]

/-- What a row block's last point writes back is the second scratch. -/
theorem stored (c : Dev nD) (t : Fin cfg0.N) (h1 : t.val % 8 = 7) : (outsAt0 m c t.val t.isLt).1 = (outsAt0 m c t.val t.isLt).2.2 := by
  rw [outsAt0_C m c t (by omega) h1]
  frame_out

/-- A point's lanes' part of an element of its block. -/
def part (c : Dev nD) (t : Fin cfg0.N) (a : Fin 768) (e : Fin 1024) : EReal :=
  ∑ q : Fin 512, lane (m ((c : Thread nD τ).loc main_arg0)) (m ((c : Thread nD τ).loc main_arg1)) (m ((c : Thread nD τ).loc main_arg2))
    (m ((c : Thread nD τ).loc main_arg3)) ⟨t.val / 8 * 768 + a.val, by have := (idx t).2.2.2.2.2; omega⟩ e ⟨t.val % 8 * 512 + q.val, by omega⟩

/-- A point adds its lanes' part. -/
theorem adds (c : Dev nD) (t : Fin cfg0.N) (acc : Vec Ideal S768x1024 .f32) (y : S768x1024.Idx) :
    k0_pay3 (F := Ideal) (k0_pay1 (F := Ideal) (iblk m c 0 t) (iblk m c 1 t)) (iblk m c 2 t) acc (iblk m c 3 t) y
      = (acc y : EReal) + part m c t (y 0) (y 1) := by
  idx_vars y
  pointwise [k0_pay3, k0_pay1]
  unfold part lane lanePre normed
  blk_point [iblk, V, idx t]

/-- An element of the residual. -/
def residual (X : FVec Ideal S16896x1024 .f32) (r : Fin 16896) (e : Fin 1024) : EReal := X (ix2 r e)

/-- What a point adds to an element: its lanes' part, and at a row block's first point the residual. -/
def added (c : Dev nD) (t : Fin cfg0.N) (a : Fin 768) (e : Fin 1024) : EReal :=
  (if t.val % 8 = 0 then residual (m ((c : Thread nD τ).loc main_arg0)) ⟨t.val / 8 * 768 + a.val, by have := (idx t).2.2.2.2.2; omega⟩ e else 0)
    + part m c t a e

/-- The second scratch after a row block's last point. -/
theorem total (c : Dev nD) (t : Fin cfg0.N) (h7 : t.val % 8 = 7) (a : Fin 768) (e : Fin 1024) :
    (outsAt0 m c t.val t.isLt).2.2 (ix2 a e) = outAt (m ((c : Thread nD τ).loc main_arg0)) (m ((c : Thread nD τ).loc main_arg1))
      (m ((c : Thread nD τ).loc main_arg2)) (m ((c : Thread nD τ).loc main_arg3))
      ⟨t.val / 8 * 768 + a.val, by have := (idx t).2.2.2.2.2; omega⟩ e := by
  refine (Pipeline.eq_sum_fin_of_reset_step_apply_of_flush (M := EReal) (fun n h => (outsAt0 m c n h).2.2) 8 (fun _ => 0)
    (fun t j => added m c t (j 0) (j 1)) (fun t h j => ?_) (fun t h j => ?_) t h7 (ix2 a e)).trans ?_
  · show (outsAt0 m c t.val t.isLt).2.2 j = (0 : EReal) + added m c t (j 0) (j 1)
    rw [sum_first m c t h, adds]
    unfold added
    rw [if_pos h, zero_add]
    idx_vars j
    congr 1
    pointwise [k0_pay2, residual]
    blk_point [iblk, V, idx t]
  · show (outsAt0 m c t.val t.isLt).2.2 j
      = (outsAt0 m c (t.val - 1) (Nat.lt_of_le_of_lt (Nat.sub_le _ _) t.isLt)).2.2 j + added m c t (j 0) (j 1)
    rw [sum_next m c t h, adds]
    unfold added
    rw [if_neg h, zero_add]
  · have hd : ∀ s : Fin 8, (8 * (t.val / 8) + s.val) / 8 = t.val / 8 ∧ (8 * (t.val / 8) + s.val) % 8 = s.val := fun s => ⟨by omega, by omega⟩
    simp only [added, zero_add]
    rw [Finset.sum_add_distrib, outAt]
    congr 1
    · rw [Finset.sum_eq_single (0 : Fin 8)]
      · rw [if_pos (by rw [(hd 0).2]; rfl)]
        exact congrArg (fun r => residual _ r e) (Fin.ext (by show (8 * (t.val / 8) + (0 : Fin 8).val) / 8 * 768 + a.val = _; rw [(hd 0).1]))
      · intro s _ hs
        exact if_neg (by rw [(hd s).2]; exact fun h => hs (Fin.ext h))
      · intro h
        exact absurd (Finset.mem_univ _) h
    · simp only [part]
      refine Fin.sum_mul_add_congr fun s q hl => ?_
      refine congrArg₂ (fun r l => lane _ _ _ _ r e l) (Fin.ext ?_) (Fin.ext ?_)
      · show (8 * (t.val / 8) + s.val) / 8 * 768 + a.val = _
        rw [(hd s).1]
      · show (8 * (t.val / 8) + s.val) % 8 * 512 + q.val = _
        rw [(hd s).2]

/-- Every element of the result. -/
theorem final (c : Dev nD) : (dats m 0 c).arrAt 4 (cfgs 0).N = fun y =>
    outAt (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 4 _ (by decide +kernel) fun t hf y => ?_
  blk_simp
  have h7 := (flush0_4 t).mp hf
  rw [after0_4, stored m c t h7]
  idx_vars y
  refine (total m c t h7 y0 y1).trans (congrArg₂ (outAt _ _ _ _) (Fin.ext ?_) (Fin.ext ?_))
  · blk_simp [idx t]
  · blk_simp [idx t]
end Cert.Kernel2Ideal.Mlp
namespace Cert.Proof
open Idealize.ShloMosaic Idealize.SL.Sem Cert.Kernel2Ideal Cert.Kernel2Ideal.Mlp

/-- The kernel's MLP is the reference's, element by element. -/
theorem algebraic_mlp : Cert.algebraic_Kernel2Ideal_Reference2Ideal := by
  pair_intro
  · run_from Cert.Kernel2Ideal.Gen.run_main m g
  · run_from Cert.Reference2Ideal.Value.run m' g'
    rw [Cert.Kernel2Ideal.Mlp.final]
    obtain ⟨h0, h1, h2, h3⟩ := hagree c
    funext y
    idx_vars y
    pointwise! [outAt, lane, lanePre, normed]
end Cert.Proof
end
-- ==== Proof.ProjValue.lean ====
module
public import proofs.«01_k».proof.Defs
public import proofs.«01_k».proof.Proof.Gen.Kernel3Ideal.Value
public import proofs.«01_k».proof.Proof.Gen.Reference3Ideal.Run
public import Idealize.ShloMosaic.PureOps.Ideal
public import Idealize.ShloMosaic.Lib.Pointwise
import Idealize.ShloMosaic.Lib.Pipeline.ValueKit
import Idealize.ShloMosaic.Lib.Pipeline.ReadBack
import Idealize.ShloMosaic.Lib.Claim
import Idealize.ShloMosaic.Lib.StableHlo.Run
/-!
The norm and the input projection: every element of the kernel's result is the element of the projection, in the order the
kernel keeps the columns.
-/
set_option maxRecDepth 16384
@[expose] public section
noncomputable section
namespace Cert.Kernel3Ideal.Proj
open Cert.Kernel3Ideal Cert.Kernel3Ideal.Gen Idealize.ShloMosaic Idealize.ShloMosaic.TcCoe Idealize.SL.Sem
variable (m : (ℓ : Loc nD τ sig) → Buf (Elt Ideal) ℓ)

/-- The windows' blocks at every point. -/
theorem idx : ∀ t : Fin cfg0.N, win0_0.index t = ![t.val / 13, 0] ∧ win0_1.index t = ![0, 0] ∧ win0_2.index t = ![0, t.val % 13]
    ∧ win0_3.index t = ![t.val / 13, t.val % 13] ∧ t.val < 286 :=
  (by decide +kernel : ∀ t : Fin grid0.N, _)

/-- The first window's block stays while the column block moves. -/
theorem rows_stay (c : Dev nD) (t t' : Fin cfg0.N) (h : t.val / 13 = t'.val / 13) : iblk m c 0 t = iblk m c 0 t' := by
  funext y
  blk_ext [iblk, idx t, idx t', h]

/-- The gain is one block. -/
theorem gain_stays (c : Dev nD) (t t' : Fin cfg0.N) : iblk m c 1 t = iblk m c 1 t' := by
  funext y
  blk_ext [iblk, idx t, idx t']

/-- What the scratch holds after every point: the normed rows of the point's row block. -/
theorem scratch (c : Dev nD) : ∀ (n : ℕ) (h : n < cfg0.N), (outsAt0 m c n h).2 = k0_pay1 (F := Ideal) (iblk m c 0 ⟨n, h⟩) (iblk m c 1 ⟨n, h⟩) := by
  intro n
  induction n with
  | zero =>
    intro h
    rw [outsAt0_A m c ⟨0, h⟩ (by rfl)]
    frame_out
  | succ n ih =>
    intro h
    by_cases h0 : (n + 1) % 13 = 0
    · rw [outsAt0_A m c ⟨n + 1, h⟩ h0]
      frame_out
    · rw [outsAt0_B m c ⟨n + 1, h⟩ h0]
      frame_out
      show (outsAt0 m c n _).2 = _
      rw [ih, rows_stay m c ⟨n + 1, h⟩ ⟨n, by omega⟩ (by show (n + 1) / 13 = n / 13; omega), gain_stays m c ⟨n + 1, h⟩ ⟨n, by omega⟩]

/-- What a point stores: the normed rows against its columns. -/
theorem stored (c : Dev nD) (t : Fin cfg0.N) : (outsAt0 m c t.val t.isLt).1
    = k0_pay2 (F := Ideal) (k0_pay1 (F := Ideal) (iblk m c 0 t) (iblk m c 1 t)) (iblk m c 2 t) := by
  by_cases h0 : t.val % 13 = 0
  · rw [outsAt0_A m c t h0]
    frame_out
  · have ht : (0 : ℕ) < t.val := by omega
    rw [outsAt0_B m c t h0]
    simp only [scratch]
    frame_out
    rw [read_unread_whole, rows_stay m c t ⟨t.val - 1, by omega⟩ (by show t.val / 13 = (t.val - 1) / 13; omega), gain_stays m c t ⟨t.val - 1, by omega⟩]

/-- Column `q` in the kernel's order, of columns `f` in the argument's order; the rest of the rotary key's block is zero. -/
def place (f : Fin 6560 → EReal) (q : Fin 6656) : EReal :=
  if h0 : q.val < 512 then f ⟨q.val, by omega⟩ else
  if h1 : q.val - 512 < 512 then f ⟨768 + (q.val - 512), by omega⟩ else
  if h2 : q.val - 512 - 512 < 512 then f ⟨1280 + (q.val - 512 - 512), by omega⟩ else
  if h3 : q.val - 512 - 512 - 512 < 512 then f ⟨1792 + (q.val - 512 - 512 - 512), by omega⟩ else
  if h4 : q.val - 512 - 512 - 512 - 512 < 512 then f ⟨2304 + (q.val - 512 - 512 - 512 - 512), by omega⟩ else
  if h5 : q.val - 512 - 512 - 512 - 512 - 512 < 128 then f ⟨512 + (q.val - 512 - 512 - 512 - 512 - 512), by omega⟩ else
  if h6 : q.val - 512 - 512 - 512 - 512 - 512 - 128 < 128 then f ⟨640 + (q.val - 512 - 512 - 512 - 512 - 512 - 128), by omega⟩ else
  if h7 : q.val - 512 - 512 - 512 - 512 - 512 - 128 - 128 < 256 then f ⟨3200 + (q.val - 512 - 512 - 512 - 512 - 512 - 128 - 128), by omega⟩ else
  if h8 : q.val - 512 - 512 - 512 - 512 - 512 - 128 - 128 - 256 < 3072 then f ⟨3488 + (q.val - 512 - 512 - 512 - 512 - 512 - 128 - 128 - 256), by omega⟩ else
  if h9 : q.val - 512 - 512 - 512 - 512 - 512 - 128 - 128 - 256 - 3072 < 384 then f ⟨2816 + (q.val - 512 - 512 - 512 - 512 - 512 - 128 - 128 - 256 - 3072), by omega⟩ else
  if h10 : q.val - 512 - 512 - 512 - 512 - 512 - 128 - 128 - 256 - 3072 - 384 < 64 then 0 else
  if h11 : q.val - 512 - 512 - 512 - 512 - 512 - 128 - 128 - 256 - 3072 - 384 - 64 < 32 then f ⟨3456 + (q.val - 512 - 512 - 512 - 512 - 512 - 128 - 128 - 256 - 3072 - 384 - 64), by omega⟩ else
  0

/-- A choice of a column, or of zero, goes through a sum of products. -/
def Through (G : (Fin 6560 → EReal) → EReal) : Prop :=
  ∀ (x : Fin 1024 → EReal) (w : Fin 1024 → Fin 6560 → EReal), ∑ k, x k * G (w k) = G fun s => ∑ k, x k * w k s

theorem Through.zero : Through fun _ => 0 := fun x _ => by simp only [mul_zero, Finset.sum_const_zero]

theorem Through.some {p : Prop} [Decidable p] (a : p → Fin 6560) {G : (Fin 6560 → EReal) → EReal} (h : Through G) :
    Through fun f => if hp : p then f (a hp) else G f := fun x w => by
  by_cases hp : p
  · simp only [dif_pos hp]
  · simp only [dif_neg hp]
    exact h x w

theorem Through.none {p : Prop} [Decidable p] {G : (Fin 6560 → EReal) → EReal} (h : Through G) :
    Through fun f => if _hp : p then 0 else G f := fun x w => by
  by_cases hp : p
  · simp only [dif_pos hp, mul_zero, Finset.sum_const_zero]
  · simp only [dif_neg hp]
    exact h x w

theorem sum_place (x : Fin 1024 → EReal) (w : Fin 1024 → Fin 6560 → EReal) (q : Fin 6656) :
    ∑ k, x k * place (w k) q = place (fun s => ∑ k, x k * w k s) q := by
  suffices h : Through (fun f => place f q) from h x w
  unfold place
  with_reducible repeat first | refine Through.none ?_ | refine Through.some _ ?_ | exact Through.zero

/-- A row over its root mean square, times the gain. -/
def normed (X : FVec Ideal S16896x1024 .f32) (g : FVec Ideal S1024 .f32) (r : Fin 16896) (k : Fin 1024) : EReal :=
  X (ix2 r k) * Ideal.rsqrt (Ideal.div (∑ j : Fin 1024, X (ix2 r j) * X (ix2 r j)) (Ideal.ofBits .f32 0x44800000#32) + Ideal.ofBits .f32 0x358637BD#32) * g (ix1 k)

/-- An element of the projection, its columns in the kernel's order. -/
def projAt (X : FVec Ideal S16896x1024 .f32) (g : FVec Ideal S1024 .f32) (w : FVec Ideal S1024x6560 .f32) (r : Fin 16896) (q : Fin 6656) : EReal :=
  place (fun s => ∑ k : Fin 1024, normed X g r k * w (ix2 k s)) q

/-- The weight with its columns in the order the kernel keeps them, the rotary key's block padded to 128 lanes. -/
def arranged (w : FVec Ideal S1024x6560 .f32) : FVec Ideal S1024x6656 .bf16 :=
  truncf .bf16 (concatenate S1024x6656 1 [⟨S1024x512, extractStridedSlice S1024x512 ![0, 0] w slices_S1024x6560_S1024x512_0_0⟩,
    ⟨S1024x512, extractStridedSlice S1024x512 ![0, 768] w slices_S1024x6560_S1024x512_0_768⟩,
    ⟨S1024x512, extractStridedSlice S1024x512 ![0, 1280] w slices_S1024x6560_S1024x512_0_1280⟩,
    ⟨S1024x512, extractStridedSlice S1024x512 ![0, 1792] w slices_S1024x6560_S1024x512_0_1792⟩,
    ⟨S1024x512, extractStridedSlice S1024x512 ![0, 2304] w slices_S1024x6560_S1024x512_0_2304⟩,
    ⟨S1024x128, extractStridedSlice S1024x128 ![0, 512] w slices_S1024x6560_S1024x128_0_512⟩,
    ⟨S1024x128, extractStridedSlice S1024x128 ![0, 640] w slices_S1024x6560_S1024x128_0_640⟩,
    ⟨S1024x256, extractStridedSlice S1024x256 ![0, 3200] w slices_S1024x6560_S1024x256_0_3200⟩,
    ⟨S1024x3072, extractStridedSlice S1024x3072 ![0, 3488] w slices_S1024x6560_S1024x3072_0_3488⟩,
    ⟨S1024x384, extractStridedSlice S1024x384 ![0, 2816] w slices_S1024x6560_S1024x384_0_2816⟩,
    ⟨S1024x128, concatenate S1024x128 1 [⟨S1024x64, broadcastInDim S1024x64 ![] bcast_S_S1024x64 (constant S_ .f32 0x00000000#32)⟩,
      ⟨S1024x32, extractStridedSlice S1024x32 ![0, 3456] w slices_S1024x6560_S1024x32_0_3456⟩,
      ⟨S1024x32, broadcastInDim S1024x32 ![] bcast_S_S1024x32 (constant S_ .f32 0x00000000#32)⟩] concatenates_S1024x64_S1024x32_S1024x32_S1024x128_d1⟩] concatenates_S1024x512_S1024x512_S1024x512_S1024x512_S1024x512_S1024x128_S1024x128_S1024x256_S1024x3072_S1024x384_S1024x128_S1024x6656_d1) bitsLt_bf16_f32

set_option maxHeartbeats 1000000 in
theorem weight (c : Dev nD) : V m c main_v16 = arranged (m ((c : Thread nD τ).loc main_arg2)) := by
  unfold V
  after_results_simp <;> (try dsimp only [Matrix.cons_val]) <;> (try after_results_simp) <;> rfl

theorem arranged_apply (w : FVec Ideal S1024x6560 .f32) (k : Fin 1024) (q : Fin 6656) : arranged w (ix2 k q) = place (fun s => w (ix2 k s)) q := by
  generalize hp : place (fun s => w (ix2 k s)) q = p
  pointwise [arranged]
  rw [← hp]
  rfl

/-- The block of the weight's columns, read in the argument. -/
theorem weight_block (c : Dev nD) (t : Fin cfg0.N) (k : Fin 1024) (q : Fin 512) :
    (iblk m c 2 t : FVec Ideal S1024x512 .bf16) (ix2 k q)
      = place (fun s => (m ((c : Thread nD τ).loc main_arg2) : FVec Ideal S1024x6560 .f32) (ix2 k s)) ⟨t.val % 13 * 512 + q.val, by omega⟩ := by
  rw [← arranged_apply]
  blk_simp [iblk, weight]
  blk_ext [idx t]

/-- Every element of the result. -/
theorem final (c : Dev nD) : (dats m 0 c).arrAt 3 (cfgs 0).N = fun y =>
    projAt (m ((c : Thread nD τ).loc main_arg0)) (m ((c : Thread nD τ).loc main_arg1)) (m ((c : Thread nD τ).loc main_arg2)) (y 0) (y 1) := by
  refine (dats m 0 c).arrAt_eq_of_covers 3 _ (by decide +kernel) fun t _ y => ?_
  blk_simp
  rw [after0_3, stored]
  idx_vars y
  have ht := idx t
  refine Eq.trans (b := projAt (m ((c : Thread nD τ).loc main_arg0)) (m ((c : Thread nD τ).loc main_arg1)) (m ((c : Thread nD τ).loc main_arg2))
    ⟨t.val / 13 * 768 + y0.val, by omega⟩ ⟨t.val % 13 * 512 + y1.val, by omega⟩) ?_
    (congrArg₂ (projAt _ _ _) (Fin.ext (by blk_simp [idx t])) (Fin.ext (by blk_simp [idx t])))
  unfold projAt
  refine Eq.trans ?_ (sum_place (normed _ _ _) (fun k s => (m ((c : Thread nD τ).loc main_arg2) : FVec Ideal S1024x6560 .f32) (ix2 k s)) _)
  pointwise [k0_pay1, k0_pay2, weight_block]
  refine Fin.sum_fin_congr fun k => ?_
  unfold normed
  blk_point [iblk, V, idx t]
end Cert.Kernel3Ideal.Proj
namespace Cert.Proof
open Idealize.ShloMosaic Idealize.SL.Sem Cert.Kernel3Ideal Cert.Kernel3Ideal.Proj

/-- The reference's element. -/
theorem proj_reference (m : (ℓ : Loc Cert.Reference3Ideal.nD Cert.Reference3Ideal.τ Cert.Reference3Ideal.sig) → Buf (Elt Ideal) ℓ)
    (c : Dev Cert.Reference3Ideal.nD) (r : Fin 16896) (q : Fin 6656) :
    Cert.Reference3Ideal.Value.res_main_v27 m c (ix2 r q) = projAt (m ((c.tc : Thread Cert.Reference3Ideal.nD Cert.Reference3Ideal.τ).loc Cert.Reference3Ideal.main_arg0))
      (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) r q := by
  generalize hp : projAt _ _ _ r q = p
  pointwise [Cert.Reference3Ideal.Value.res_main_v27]
  rw [← hp]
  rfl

/-- The kernel's projection is the reference's, element by element. -/
theorem algebraic_proj : Cert.algebraic_Kernel3Ideal_Reference3Ideal := by
  pair_intro
  · run_from Cert.Kernel3Ideal.Gen.run_main m g
  · run_from Cert.Reference3Ideal.Value.run m' g'
    rw [Cert.Kernel3Ideal.Proj.final]
    obtain ⟨h0, h1, h2⟩ := hagree c
    funext y
    idx_vars y
    refine (proj_reference m' c _ _).trans ?_
    rw [h0, h1, h2]
end Cert.Proof
end
-- ==== Proof.MergeValue.lean ====
module
public import proofs.«01_k».proof.Defs
public import proofs.«01_k».proof.Proof.Gen.Kernel4Ideal.Value
public import proofs.«01_k».proof.Proof.Gen.Reference4Ideal.Run
public import Idealize.ShloMosaic.PureOps.Ideal
public import Idealize.ShloMosaic.Lib.Pointwise
import Idealize.ShloMosaic.Lib.Pipeline.ValueKit
import Idealize.ShloMosaic.Lib.Claim
/-!
The gated merge: every element of the kernel's result is the element of the merge written out below.
-/
set_option maxRecDepth 16384
@[expose] public section
noncomputable section
namespace Cert.Kernel4Ideal.Merge
open Cert.Kernel4Ideal Cert.Kernel4Ideal.Gen Idealize.ShloMosaic Idealize.ShloMosaic.TcCoe Idealize.SL.Sem
variable (m : (ℓ : Loc nD τ sig) → Buf (Elt Ideal) ℓ)

/-- The windows' blocks at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![0, 0] ∧ win0_9.index t = ![t.val, 0] ∧ t.val < 66 :=
  (by decide +kernel : ∀ t : Fin grid0.N, _)

/-- The sigmoid of a gate's logit. -/
def gate (z : EReal) : EReal := Ideal.div 1 (1 + Ideal.exp (-z))

/-- The merge of row `r` at lane `x`: for each branch its gate times its output row against its weight. -/
def mergedAt (A B C : FVec Ideal S16896x512 .bf16) (P : FVec Ideal S16896x6656 .f32) (Wa Wb Wc : FVec Ideal S512x1024 .f32)
    (r : Fin 16896) (x : Fin 1024) : EReal :=
  gate (P (ix2 r ⟨3072 + x.val, by omega⟩)) * (∑ k : Fin 512, A (ix2 r k) * Wa (ix2 k x))
    + gate (P (ix2 r ⟨3072 + (1024 + x.val), by omega⟩)) * (∑ k : Fin 512, B (ix2 r k) * Wb (ix2 k x))
    + gate (P (ix2 r ⟨3072 + (2048 + x.val), by omega⟩)) * (∑ k : Fin 512, C (ix2 r k) * Wc (ix2 k x))

/-- The residual row plus the merged row against the output weight. -/
def outAt (H : FVec Ideal S16896x1024 .f32) (A B C : FVec Ideal S16896x512 .bf16) (P : FVec Ideal S16896x6656 .f32)
    (Wa Wb Wc : FVec Ideal S512x1024 .f32) (Wo : FVec Ideal S1024x1024 .f32) (r : Fin 16896) (e : Fin 1024) : EReal :=
  H (ix2 r e) + ∑ x : Fin 1024, mergedAt A B C P Wa Wb Wc r x * Wo (ix2 x e)

/-- The block of the gates' logits, read in the projection. -/
theorem gate_block (c : Dev nD) (t : Fin cfg0.N) (a : Fin 256) (q : Fin 3072) :
    (X0_4 m c t : FVec Ideal S256x3072 .f32) (ix2 a q)
      = (m ((c : Thread nD τ).loc main_arg4) : FVec Ideal S16896x6656 .f32) (ix2 ⟨t.val * 256 + a.val, by have := (idx t).2.2.2.2.2.2.2.2.2.2; omega⟩ ⟨3072 + q.val, by omega⟩) := by
  unfold X0_4 Pipeline.Window.fill
  rw [dif_pos (moved0_4 t _)]
  blk_ext [iblk, V, idx t]

/-- Every element of the result. -/
theorem final (c : Dev nD) : (dats m 0 c).arrAt 9 (cfgs 0).N = fun y =>
    outAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (y 0) (y 1) := by
  refine (dats m 0 c).arrAt_eq_of_covers 9 _ (by decide +kernel) fun t _ y => ?_
  blk_simp
  rw [after0_9]
  unfold outsAt0
  frame_out
  idx_vars y
  pointwise [k0_pay1, k0_pay2, k0_pay3, k0_pay4, outAt, mergedAt, gate, gate_block]
  simp only [zero_sub]
  blk_point [iblk, V, idx t]
end Cert.Kernel4Ideal.Merge
namespace Cert.Proof
open Idealize.ShloMosaic Idealize.SL.Sem Cert.Kernel4

/-- The kernel's merge is the reference's, element by element. -/
theorem algebraic_merge : Cert.algebraic_Kernel4Ideal_Reference4Ideal := by
  pair_intro
  · run_from Cert.Kernel4Ideal.Gen.run_main m g
  · run_from Cert.Reference4Ideal.Value.run m' g'
    rw [Cert.Kernel4Ideal.Merge.final]
    obtain ⟨h0, h1, h2, h3, h4, h5, h6, h7, h8⟩ := hagree c
    funext y
    idx_vars y
    pointwise! [Cert.Kernel4Ideal.Merge.outAt, Cert.Kernel4Ideal.Merge.mergedAt, Cert.Kernel4Ideal.Merge.gate]
end Cert.Proof
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Pre_pre
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_pre_prep
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_pre_step
public import proofs.«01_k».proof.Proof.HgClaim
public import proofs.«01_k».proof.Proof.PrepClaim
public import proofs.«01_k».proof.Proof.SbRef
public import proofs.«01_k».proof.Proof.SbValue
public import proofs.«01_k».proof.Proof.SbPre
public import proofs.«01_k».proof.Proof.MlpValue
public import proofs.«01_k».proof.Proof.ProjValue
public import proofs.«01_k».proof.Proof.MergeValue
public import Idealize.ShloMosaic.Adequacy
public import Idealize.ShloMosaic.Init
import Idealize.ShloMosaic.Lib.Claim
import Idealize.ShloMosaic.Lib.Pointwise
/-!
The claim, from its parts: the frames of the four calls and of their references, and the four value claims. The kernels and the
references are printed with the semaphores they use, so every frame also says that the counters end at zero.
-/
@[expose] public section

noncomputable section

namespace Cert.Proof

open Idealize.ShloMosaic Idealize.SL.Sem Cert.Kernel

/-- The attention's reference is host operations: its run, read at the arguments; it has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The MLP's reference is host operations: its run, read at the arguments; it has no semaphore. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

/-- The projection's reference is host operations: its run, read at the arguments; it has no semaphore. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m g)

/-- The merge's reference is host operations: its run, read at the arguments; it has no semaphore. -/
theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m g)

/-- The preparation's reference is host operations: its run, read at the arguments; it has no semaphore. -/
theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0) :=
  (θ_run Cert.Reference5Ideal.defs _ _).mono (fun r h => ⟨fun c => (h c).2.2.2.2.2, Idealize.ShloMosaic.sem_eq_zero_of_no_sems (by decide) r.2⟩)
    (Cert.Reference5Ideal.Value.run (F := Ideal) m g)

/-- The decoding step's reference is host operations: its run, read at the arguments; it has no semaphore. -/
theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run Cert.Reference6Ideal.defs _ _).mono (fun r h => ⟨fun c => (h c).2.2, Idealize.ShloMosaic.sem_eq_zero_of_no_sems (by decide) r.2⟩)
    (Cert.Reference6Ideal.Value.run (F := Ideal) m g)

/-- The attention's result is the reference's, element by element. -/
theorem algebraic_attention : Cert.algebraic_KernelIdeal_ReferenceIdeal_pre_pre := by
  pair_intro
  · run_from Cert.KernelIdeal.Gen.run_main m g
  · run_from Cert.ReferenceIdeal.Value.run m' g'
    have hx : ∀ c, Cert.Sb.Finite (Cert.KernelIdeal.Sb.proj m c) := fun c => Cert.Pre_pre.Sb.finite_of_pre _ (hpre c)
    refine (Cert.ReferenceIdeal.Sb.res_eq m' c).trans ?_
    rw [hagree c]
    refine Eq.trans ?_ (Cert.KernelIdeal.Sb.final m hx c).symm
    funext y
    idx_vars y
    exact Cert.ReferenceIdeal.Sb.result_apply _ (hx c) _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_pre.Gen.facts, Cert.Pre_pre_prep.Gen.facts, Cert.Pre_pre_step.Gen.facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.Kernel2.Gen.frame m g, fun m g _ => Cert.Kernel2Ideal.Gen.frame m g, fun m g _ => frame_reference2 m g,
  fun m g _ => Cert.Kernel3.Gen.frame m g, fun m g _ => Cert.Kernel3Ideal.Gen.frame m g, fun m g _ => frame_reference3 m g,
  fun m g _ => Cert.Kernel4.Gen.frame m g, fun m g _ => Cert.Kernel4Ideal.Gen.frame m g, fun m g _ => frame_reference4 m g,
  fun m g _ => Cert.Kernel5.Gen.frame m g, fun m g _ => Cert.Kernel5Ideal.Gen.frame m g, fun m g _ => Cert.Kernel5Ideal.Gen.frame m g,
  fun m g _ => frame_reference5 m g, fun m g _ => frame_reference5 m g,
  fun m g _ => Cert.Kernel6.Gen.frame m g, fun m g _ => Cert.Kernel6Ideal.Gen.frame m g, fun m g _ => Cert.Kernel6Ideal.Gen.frame m g,
  fun m g _ => frame_reference6 m g, fun m g _ => frame_reference6 m g,
  trivial, algebraic_attention, trivial, algebraic_mlp, trivial, algebraic_proj, trivial, algebraic_merge, trivial, algebraic_prep, trivial, algebraic_step⟩

end Cert.Proof

end
